-- ==== Defs.lean ====
def Pre_Kernel (m : (ℓ : Loc Cert.Kernel.nD Cert.Kernel.τ Cert.Kernel.sig) → Buf (Elt Bits) ℓ) : Prop :=
  True

def Pre_Kernel_sound_input [hPre_sound_input : Cert.Pre_sound_input.Facts] (m : (ℓ : Loc Cert.Kernel.nD Cert.Kernel.τ Cert.Kernel.sig) → Buf (Elt Bits) ℓ) : Prop :=
  ∀ c : Dev Cert.Kernel.nD,
    (Cert.Pre_sound_input.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_sound_input : Cert.Pre_sound_input.Facts] (m : (ℓ : Loc Cert.KernelIdeal.nD Cert.KernelIdeal.τ Cert.KernelIdeal.sig) → Buf (Elt Ideal) ℓ) : Prop :=
  ∀ c : Dev Cert.KernelIdeal.nD,
    (Cert.Pre_sound_input.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sound_input [hPre_sound_input : Cert.Pre_sound_input.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sound_input.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_Kernel_pre_sound_input [hKernel : Cert.Kernel.Facts] [hPre_sound_input : Cert.Pre_sound_input.Facts] : Prop :=
  ∀ (m : (ℓ : Loc Cert.Kernel.nD Cert.Kernel.τ Cert.Kernel.sig) → Buf (Elt Bits) ℓ) (g : Dev Cert.Kernel.nD → PrngReg), Pre_Kernel_sound_input m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_sound_input : Cert.Pre_sound_input.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_sound_input [hReferenceIdeal : Cert.ReferenceIdeal.Facts] [hPre_sound_input : Cert.Pre_sound_input.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sound_input m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal [hKernelIdeal : Cert.KernelIdeal.Facts] [hReferenceIdeal : Cert.ReferenceIdeal.Facts] [hPre_sound_input : Cert.Pre_sound_input.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_sound_input : Cert.Pre_sound_input.Facts),
    quiescent_Kernel (hKernel := hKernel)
    ∧ quiescent_Kernel_pre_sound_input (hKernel := hKernel) (hPre_sound_input := hPre_sound_input)
    ∧ quiescent_KernelIdeal (hKernelIdeal := hKernelIdeal) (hPre_sound_input := hPre_sound_input)
    ∧ quiescent_ReferenceIdeal (hReferenceIdeal := hReferenceIdeal)
    ∧ quiescent_ReferenceIdeal_pre_sound_input (hReferenceIdeal := hReferenceIdeal) (hPre_sound_input := hPre_sound_input)
    ∧ preserves_Kernel_KernelIdeal
    ∧ algebraic_KernelIdeal_ReferenceIdeal (hKernelIdeal := hKernelIdeal) (hReferenceIdeal := hReferenceIdeal) (hPre_sound_input := hPre_sound_input)
-- ==== Pre_sound_input.lean ====
abbrev S16384x64 : Shape := ⟨2, ![16384, 64]⟩
abbrev S8192x64 : Shape := ⟨2, ![8192, 64]⟩
abbrev S_ : Shape := ⟨0, ![]⟩
abbrev S64x8192 : Shape := ⟨2, ![64, 8192]⟩
abbrev S16384x8192 : Shape := ⟨2, ![16384, 8192]⟩
abbrev S8192 : Shape := ⟨1, ![8192]⟩
abbrev S1x8192 : Shape := ⟨2, ![1, 8192]⟩
abbrev S16384 : Shape := ⟨1, ![16384]⟩
abbrev S16384x1 : Shape := ⟨2, ![16384, 1]⟩

class Facts : Prop where
  transposes_S8192x64_S64x8192_1_0 : S8192x64.Transposes [1, 0] S64x8192
  bcast_S_S16384x8192 : S_.BroadcastsInDim S16384x8192 (![] : Fin 0 → Fin S16384x8192.rank)
  reducesTo_S64x8192_S8192_d0 : S64x8192.ReducesTo [0] S8192
  h_S_ : 0 < S_.numel
  bcast_S8192_S1x8192_1 : S8192.BroadcastsInDim S1x8192 (![1] : Fin 1 → Fin S1x8192.rank)
  bcast_S1x8192_S16384x8192_0_1 : S1x8192.BroadcastsInDim S16384x8192 (![0, 1] : Fin 2 → Fin S16384x8192.rank)
  reducesTo_S16384x8192_S16384_d1 : S16384x8192.ReducesTo [1] S16384
  bcast_S16384_S16384x1_0 : S16384.BroadcastsInDim S16384x1 (![0] : Fin 1 → Fin S16384x1.rank)
  bcast_S16384x1_S16384x8192_0_1 : S16384x1.BroadcastsInDim S16384x8192 (![0, 1] : Fin 2 → Fin S16384x8192.rank)
  natLt_1_32 : 1 < 32
  bcast_S_S16384 : S_.BroadcastsInDim S16384 (![] : Fin 0 → Fin S16384.rank)
  bcast_S_S16384x64 : S_.BroadcastsInDim S16384x64 (![] : Fin 0 → Fin S16384x64.rank)
  reducesTo_S16384x64_S_d0_1 : S16384x64.ReducesTo [0, 1] S_
  bcast_S_S8192x64 : S_.BroadcastsInDim S8192x64 (![] : Fin 0 → Fin S8192x64.rank)
  reducesTo_S8192x64_S_d0_1 : S8192x64.ReducesTo [0, 1] S_
  dot_S16384x64_S64x8192_S16384x8192_1_0_0_1_n_n_wf : DotDims.WF S16384x64 S64x8192 S16384x8192 [1] [0] [0] [1] [] []

variable [Facts]

def dot_S16384x64_S64x8192_S16384x8192_1_0_0_1_n_n : DotDims S16384x64 S64x8192 S16384x8192 where
  lhsContracting := [1]
  rhsContracting := [0]
  lhsNonContracting := [0]
  rhsNonContracting := [1]
  lhsBatch := []
  rhsBatch := []
  wf := dot_S16384x64_S64x8192_S16384x8192_1_0_0_1_n_n_wf
def fn_part1 {F : FTy → Type} [FloatOps F] (main_arg1 : FVec F S8192x64 .f32) (main_arg2 : IVec S_ 32) (main_v17 : IVec S16384 1) (main_v18 : FVec F S16384x64 .f32) : IVec S16384 1 :=
  let main_cst_3 : FVec F S_ .f32 := constant S_ .f32 0x7F800000#32
  let main_v19 : FVec F S16384x64 .f32 := broadcastInDim S16384x64 ![] bcast_S_S16384x64 main_cst_3
  let main_v20 : IVec S16384x64 1 := cmpf .olt main_v18 main_v19
  let main_c_4 : IVec S_ 1 := constantI S_ 1 1#1
  let main_v21 : IVec S_ 1 := (fun x v => Host.reduce IntOp.andi x v reducesTo_S16384x64_S_d0_1 h_S_) main_v20 main_c_4
  let main_v22 : FVec F S8192x64 .f32 := Host.absf main_arg1
  let main_cst_5 : FVec F S_ .f32 := constant S_ .f32 0x7F800000#32
  let main_v23 : FVec F S8192x64 .f32 := broadcastInDim S8192x64 ![] bcast_S_S8192x64 main_cst_5
  let main_v24 : IVec S8192x64 1 := cmpf .olt main_v22 main_v23
  let main_c_6 : IVec S_ 1 := constantI S_ 1 1#1
  let main_v25 : IVec S_ 1 := (fun x v => Host.reduce IntOp.andi x v reducesTo_S8192x64_S_d0_1 h_S_) main_v24 main_c_6
  let main_v26 : IVec S_ 1 := andi main_v21 main_v25
  let main_v27 : IVec S16384 1 := broadcastInDim S16384 ![] bcast_S_S16384 main_v26
  let main_v28 : IVec S16384 1 := andi main_v17 main_v27
  let main_c_7 : IVec S_ 32 := constantI S_ 32 0#32
  let main_v29 : IVec S_ 1 := cmpi .ne main_arg2 main_c_7
  let main_v30 : IVec S16384 1 := broadcastInDim S16384 ![] bcast_S_S16384 main_v29
  let main_v31 : IVec S16384 1 := andi main_v28 main_v30
  main_v31

def fn {F : FTy → Type} [FloatOps F] (main_arg0 : FVec F S16384x64 .f32) (main_arg1 : FVec F S8192x64 .f32) (main_arg2 : IVec S_ 32) : IVec S16384 1 :=
  let main_v0 : FVec F S64x8192 .f32 := (transpose S64x8192 [1, 0] · transposes_S8192x64_S64x8192_1_0) main_arg1
  let main_v1 : FVec F S16384x8192 .f32 := (fun l r => Host.dotGeneral dot_S16384x64_S64x8192_S16384x8192_1_0_0_1_n_n none l r) main_arg0 main_v0
  let main_cst : FVec F S_ .f32 := constant S_ .f32 0x40000000#32
  let main_v2 : FVec F S16384x8192 .f32 := broadcastInDim S16384x8192 ![] bcast_S_S16384x8192 main_cst
  let main_v3 : FVec F S16384x8192 .f32 := mulf main_v2 main_v1
  let main_v4 : FVec F S64x8192 .f32 := (transpose S64x8192 [1, 0] · transposes_S8192x64_S64x8192_1_0) main_arg1
  let main_v5 : FVec F S64x8192 .f32 := mulf main_v4 main_v4
  let main_cst_0 : FVec F S_ .f32 := constant S_ .f32 0x00000000#32
  let main_v6 : FVec F S8192 .f32 := (fun x v => Host.reduceAdd x v reducesTo_S64x8192_S8192_d0 h_S_) main_v5 main_cst_0
  let main_v7 : FVec F S1x8192 .f32 := broadcastInDim S1x8192 ![1] bcast_S8192_S1x8192_1 main_v6
  let main_v8 : FVec F S16384x8192 .f32 := broadcastInDim S16384x8192 ![0, 1] bcast_S1x8192_S16384x8192_0_1 main_v7
  let main_v9 : FVec F S16384x8192 .f32 := subf main_v3 main_v8
  let main_cst_1 : FVec F S_ .f32 := constant S_ .f32 0xFF800000#32
  let main_v10 : FVec F S16384 .f32 := (fun x v => Host.reduce FloatOps.maximumf x v reducesTo_S16384x8192_S16384_d1 h_S_) main_v9 main_cst_1
  let main_v11 : FVec F S16384x1 .f32 := broadcastInDim S16384x1 ![0] bcast_S16384_S16384x1_0 main_v10
  let main_v12 : FVec F S16384x8192 .f32 := broadcastInDim S16384x8192 ![0, 1] bcast_S16384x1_S16384x8192_0_1 main_v11
  let main_v13 : IVec S16384x8192 1 := cmpf .oeq main_v9 main_v12
  let main_v14 : IVec S16384x8192 32 := (extui 32 · natLt_1_32) main_v13
  let main_c : IVec S_ 32 := constantI S_ 32 0#32
  let main_v15 : IVec S16384 32 := (fun x v => Host.reduce IntOp.addi x v reducesTo_S16384x8192_S16384_d1 h_S_) main_v14 main_c
  let main_c_2 : IVec S_ 32 := constantI S_ 32 1#32
  let main_v16 : IVec S16384 32 := broadcastInDim S16384 ![] bcast_S_S16384 main_c_2
  let main_v17 : IVec S16384 1 := cmpi .eq main_v15 main_v16
  let main_v18 : FVec F S16384x64 .f32 := Host.absf main_arg0
  fn_part1 (F := F) main_arg1 main_arg2 main_v17 main_v18
-- ==== Kernel.lean ====
abbrev S16384x64 : Shape := ⟨2, ![16384, 64]⟩
abbrev S8192x64 : Shape := ⟨2, ![8192, 64]⟩
abbrev S_ : Shape := ⟨0, ![]⟩
abbrev S1x1 : Shape := ⟨2, ![1, 1]⟩
abbrev S64x8192 : Shape := ⟨2, ![64, 8192]⟩
abbrev S16384x8192 : Shape := ⟨2, ![16384, 8192]⟩
abbrev S16384x1 : Shape := ⟨2, ![16384, 1]⟩
abbrev S512x64 : Shape := ⟨2, ![512, 64]⟩
abbrev S512x8192 : Shape := ⟨2, ![512, 8192]⟩
abbrev S512x1 : Shape := ⟨2, ![512, 1]⟩
abbrev S1x8192 : Shape := ⟨2, ![1, 8192]⟩
abbrev S8192x72 : Shape := ⟨2, ![8192, 72]⟩
abbrev S8192 : Shape := ⟨1, ![8192]⟩
abbrev S8192x1 : Shape := ⟨2, ![8192, 1]⟩
abbrev S8192x7 : Shape := ⟨2, ![8192, 7]⟩
abbrev S512 : Shape := ⟨1, ![512]⟩
abbrev S512x72 : Shape := ⟨2, ![512, 72]⟩

abbrev nBuf : Space → Nat
  | .hbm => 273
  | .vmem => 12
  | .smem => 1
  | _ => 0

abbrev hbmTy0_0 (i : Nat) : BufTy := match i % 128 with
  | 0 => ⟨S16384x64, .f32⟩
  | 1 => ⟨S8192x64, .f32⟩
  | 2 => ⟨S_, .i32⟩
  | 3 => ⟨S_, .f32⟩
  | 4 => ⟨S_, .f32⟩
  | 5 => ⟨S_, .f32⟩
  | 6 => ⟨S1x1, .f32⟩
  | 7 => ⟨S64x8192, .f32⟩
  | 8 => ⟨S16384x8192, .i32⟩
  | 9 => ⟨S_, .i32⟩
  | 10 => ⟨S16384x8192, .i32⟩
  | 11 => ⟨S16384x8192, .i32⟩
  | 12 => ⟨S16384x8192, .i32⟩
  | 13 => ⟨S16384x8192, .i32⟩
  | 14 => ⟨S_, .i32⟩
  | 15 => ⟨S16384x8192, .i32⟩
  | 16 => ⟨S_, .i32⟩
  | 17 => ⟨S16384x8192, .i32⟩
  | 18 => ⟨S16384x8192, .i32⟩
  | 19 => ⟨S_, .i32⟩
  | 20 => ⟨S16384x8192, .i32⟩
  | 21 => ⟨S16384x8192, .i32⟩
  | 22 => ⟨S16384x8192, .i32⟩
  | 23 => ⟨S_, .i32⟩
  | 24 => ⟨S16384x8192, .i32⟩
  | 25 => ⟨S16384x8192, .i32⟩
  | 26 => ⟨S_, .i32⟩
  | 27 => ⟨S16384x8192, .i32⟩
  | 28 => ⟨S16384x8192, .i32⟩
  | 29 => ⟨S16384x8192, .i32⟩
  | 30 => ⟨S16384x8192, .i32⟩
  | 31 => ⟨S16384x8192, .i32⟩
  | 32 => ⟨S_, .i32⟩
  | 33 => ⟨S16384x8192, .i32⟩
  | 34 => ⟨S16384x8192, .i32⟩
  | 35 => ⟨S_, .i32⟩
  | 36 => ⟨S16384x8192, .i32⟩
  | 37 => ⟨S16384x8192, .i32⟩
  | 38 => ⟨S16384x8192, .i32⟩
  | 39 => ⟨S16384x8192, .i32⟩
  | 40 => ⟨S16384x8192, .i32⟩
  | 41 => ⟨S_, .i32⟩
  | 42 => ⟨S16384x8192, .i32⟩
  | 43 => ⟨S16384x8192, .i32⟩
  | 44 => ⟨S_, .i32⟩
  | 45 => ⟨S16384x8192, .i32⟩
  | 46 => ⟨S16384x8192, .i32⟩
  | 47 => ⟨S16384x8192, .i32⟩
  | 48 => ⟨S16384x8192, .i32⟩
  | 49 => ⟨S16384x8192, .i32⟩
  | 50 => ⟨S_, .i32⟩
  | 51 => ⟨S16384x8192, .i32⟩
  | 52 => ⟨S16384x8192, .i32⟩
  | 53 => ⟨S_, .i32⟩
  | 54 => ⟨S16384x8192, .i32⟩
  | 55 => ⟨S16384x8192, .i32⟩
  | 56 => ⟨S16384x8192, .i32⟩
  | 57 => ⟨S16384x8192, .i32⟩
  | 58 => ⟨S_, .i32⟩
  | 59 => ⟨S16384x8192, .i32⟩
  | 60 => ⟨S16384x8192, .i32⟩
  | 61 => ⟨S_, .i32⟩
  | 62 => ⟨S16384x8192, .i32⟩
  | 63 => ⟨S16384x8192, .i32⟩
  | 64 => ⟨S_, .i32⟩
  | 65 => ⟨S16384x8192, .i32⟩
  | 66 => ⟨S16384x8192, .i32⟩
  | 67 => ⟨S16384x8192, .i32⟩
  | 68 => ⟨S_, .i32⟩
  | 69 => ⟨S16384x8192, .i32⟩
  | 70 => ⟨S16384x8192, .i32⟩
  | 71 => ⟨S_, .i32⟩
  | 72 => ⟨S16384x8192, .i32⟩
  | 73 => ⟨S16384x8192, .i32⟩
  | 74 => ⟨S16384x8192, .i32⟩
  | 75 => ⟨S16384x8192, .i32⟩
  | 76 => ⟨S16384x8192, .i32⟩
  | 77 => ⟨S_, .i32⟩
  | 78 => ⟨S16384x8192, .i32⟩
  | 79 => ⟨S16384x8192, .i32⟩
  | 80 => ⟨S_, .i32⟩
  | 81 => ⟨S16384x8192, .i32⟩
  | 82 => ⟨S16384x8192, .i32⟩
  | 83 => ⟨S16384x8192, .i32⟩
  | 84 => ⟨S16384x8192, .i32⟩
  | 85 => ⟨S16384x8192, .i32⟩
  | 86 => ⟨S_, .i32⟩
  | 87 => ⟨S16384x8192, .i32⟩
  | 88 => ⟨S16384x8192, .i32⟩
  | 89 => ⟨S_, .i32⟩
  | 90 => ⟨S16384x8192, .i32⟩
  | 91 => ⟨S16384x8192, .i32⟩
  | 92 => ⟨S16384x8192, .i32⟩
  | 93 => ⟨S16384x8192, .i32⟩
  | 94 => ⟨S16384x8192, .i32⟩
  | 95 => ⟨S_, .i32⟩
  | 96 => ⟨S16384x8192, .i32⟩
  | 97 => ⟨S16384x8192, .i32⟩
  | 98 => ⟨S_, .i32⟩
  | 99 => ⟨S16384x8192, .i32⟩
  | 100 => ⟨S16384x8192, .i32⟩
  | 101 => ⟨S16384x8192, .i32⟩
  | 102 => ⟨S16384x8192, .i32⟩
  | 103 => ⟨S_, .i32⟩
  | 104 => ⟨S16384x8192, .i32⟩
  | 105 => ⟨S16384x8192, .i32⟩
  | 106 => ⟨S_, .i32⟩
  | 107 => ⟨S16384x8192, .i32⟩
  | 108 => ⟨S16384x8192, .i32⟩
  | 109 => ⟨S_, .i32⟩
  | 110 => ⟨S16384x8192, .i32⟩
  | 111 => ⟨S16384x8192, .i32⟩
  | 112 => ⟨S16384x8192, .i32⟩
  | 113 => ⟨S_, .i32⟩
  | 114 => ⟨S16384x8192, .i32⟩
  | 115 => ⟨S16384x8192, .i32⟩
  | 116 => ⟨S_, .i32⟩
  | 117 => ⟨S16384x8192, .i32⟩
  | 118 => ⟨S16384x8192, .i32⟩
  | 119 => ⟨S16384x8192, .i32⟩
  | 120 => ⟨S16384x8192, .i32⟩
  | 121 => ⟨S16384x8192, .i32⟩
  | 122 => ⟨S_, .i32⟩
  | 123 => ⟨S16384x8192, .i32⟩
  | 124 => ⟨S16384x8192, .i32⟩
  | 125 => ⟨S_, .i32⟩
  | 126 => ⟨S16384x8192, .i32⟩
  | 127 => ⟨S16384x8192, .i32⟩
  | _ => ⟨S16384x64, .f32⟩

abbrev hbmTy0_1 (i : Nat) : BufTy := match i % 128 with
  | 0 => ⟨S16384x8192, .i32⟩
  | 1 => ⟨S16384x8192, .i32⟩
  | 2 => ⟨S16384x8192, .i32⟩
  | 3 => ⟨S_, .i32⟩
  | 4 => ⟨S16384x8192, .i32⟩
  | 5 => ⟨S16384x8192, .i32⟩
  | 6 => ⟨S_, .i32⟩
  | 7 => ⟨S16384x8192, .i32⟩
  | 8 => ⟨S16384x8192, .i32⟩
  | 9 => ⟨S16384x8192, .i32⟩
  | 10 => ⟨S16384x8192, .i32⟩
  | 11 => ⟨S16384x8192, .i32⟩
  | 12 => ⟨S_, .i32⟩
  | 13 => ⟨S16384x8192, .i32⟩
  | 14 => ⟨S16384x8192, .i32⟩
  | 15 => ⟨S_, .i32⟩
  | 16 => ⟨S16384x8192, .i32⟩
  | 17 => ⟨S16384x8192, .i32⟩
  | 18 => ⟨S16384x8192, .i32⟩
  | 19 => ⟨S16384x8192, .i32⟩
  | 20 => ⟨S_, .i32⟩
  | 21 => ⟨S16384x8192, .i32⟩
  | 22 => ⟨S16384x8192, .i32⟩
  | 23 => ⟨S_, .i32⟩
  | 24 => ⟨S16384x8192, .i32⟩
  | 25 => ⟨S16384x8192, .i32⟩
  | 26 => ⟨S_, .i32⟩
  | 27 => ⟨S16384x8192, .i32⟩
  | 28 => ⟨S16384x8192, .i32⟩
  | 29 => ⟨S16384x8192, .i32⟩
  | 30 => ⟨S_, .i32⟩
  | 31 => ⟨S16384x8192, .i32⟩
  | 32 => ⟨S16384x8192, .i32⟩
  | 33 => ⟨S_, .i32⟩
  | 34 => ⟨S16384x8192, .i32⟩
  | 35 => ⟨S16384x8192, .i32⟩
  | 36 => ⟨S16384x8192, .i32⟩
  | 37 => ⟨S16384x8192, .i32⟩
  | 38 => ⟨S16384x8192, .i32⟩
  | 39 => ⟨S_, .i32⟩
  | 40 => ⟨S16384x8192, .i32⟩
  | 41 => ⟨S16384x8192, .i32⟩
  | 42 => ⟨S_, .i32⟩
  | 43 => ⟨S16384x8192, .i32⟩
  | 44 => ⟨S16384x8192, .i32⟩
  | 45 => ⟨S16384x8192, .i32⟩
  | 46 => ⟨S16384x8192, .i32⟩
  | 47 => ⟨S16384x8192, .i32⟩
  | 48 => ⟨S_, .i32⟩
  | 49 => ⟨S16384x8192, .i32⟩
  | 50 => ⟨S16384x8192, .i32⟩
  | 51 => ⟨S_, .i32⟩
  | 52 => ⟨S16384x8192, .i32⟩
  | 53 => ⟨S16384x8192, .i32⟩
  | 54 => ⟨S16384x8192, .i32⟩
  | 55 => ⟨S16384x8192, .i32⟩
  | 56 => ⟨S16384x8192, .i32⟩
  | 57 => ⟨S_, .i32⟩
  | 58 => ⟨S16384x8192, .i32⟩
  | 59 => ⟨S16384x8192, .i32⟩
  | 60 => ⟨S_, .i32⟩
  | 61 => ⟨S16384x8192, .i32⟩
  | 62 => ⟨S16384x8192, .i32⟩
  | 63 => ⟨S16384x8192, .i32⟩
  | 64 => ⟨S16384x8192, .i32⟩
  | 65 => ⟨S_, .i32⟩
  | 66 => ⟨S16384x8192, .i32⟩
  | 67 => ⟨S16384x8192, .i32⟩
  | 68 => ⟨S_, .i32⟩
  | 69 => ⟨S16384x8192, .i32⟩
  | 70 => ⟨S16384x8192, .i32⟩
  | 71 => ⟨S_, .i32⟩
  | 72 => ⟨S16384x8192, .i32⟩
  | 73 => ⟨S16384x8192, .i32⟩
  | 74 => ⟨S16384x8192, .i32⟩
  | 75 => ⟨S_, .i32⟩
  | 76 => ⟨S16384x8192, .i32⟩
  | 77 => ⟨S16384x8192, .i32⟩
  | 78 => ⟨S_, .i32⟩
  | 79 => ⟨S16384x8192, .i32⟩
  | 80 => ⟨S16384x8192, .i32⟩
  | 81 => ⟨S16384x8192, .i32⟩
  | 82 => ⟨S16384x8192, .i32⟩
  | 83 => ⟨S16384x8192, .i32⟩
  | 84 => ⟨S_, .i32⟩
  | 85 => ⟨S16384x8192, .i32⟩
  | 86 => ⟨S16384x8192, .i32⟩
  | 87 => ⟨S_, .i32⟩
  | 88 => ⟨S16384x8192, .i32⟩
  | 89 => ⟨S16384x8192, .i32⟩
  | 90 => ⟨S16384x8192, .i32⟩
  | 91 => ⟨S16384x8192, .i32⟩
  | 92 => ⟨S16384x8192, .i32⟩
  | 93 => ⟨S_, .i32⟩
  | 94 => ⟨S16384x8192, .i32⟩
  | 95 => ⟨S16384x8192, .i32⟩
  | 96 => ⟨S_, .i32⟩
  | 97 => ⟨S16384x8192, .i32⟩
  | 98 => ⟨S16384x8192, .i32⟩
  | 99 => ⟨S16384x8192, .i32⟩
  | 100 => ⟨S16384x8192, .i32⟩
  | 101 => ⟨S16384x8192, .i32⟩
  | 102 => ⟨S_, .i32⟩
  | 103 => ⟨S16384x8192, .i32⟩
  | 104 => ⟨S16384x8192, .i32⟩
  | 105 => ⟨S_, .i32⟩
  | 106 => ⟨S16384x8192, .i32⟩
  | 107 => ⟨S16384x8192, .i32⟩
  | 108 => ⟨S16384x8192, .i32⟩
  | 109 => ⟨S16384x8192, .i32⟩
  | 110 => ⟨S_, .i32⟩
  | 111 => ⟨S16384x8192, .i32⟩
  | 112 => ⟨S16384x8192, .i32⟩
  | 113 => ⟨S_, .i32⟩
  | 114 => ⟨S16384x8192, .i32⟩
  | 115 => ⟨S16384x8192, .i32⟩
  | 116 => ⟨S_, .i32⟩
  | 117 => ⟨S16384x8192, .i32⟩
  | 118 => ⟨S16384x8192, .i32⟩
  | 119 => ⟨S16384x8192, .i32⟩
  | 120 => ⟨S_, .i32⟩
  | 121 => ⟨S16384x8192, .i32⟩
  | 122 => ⟨S16384x8192, .i32⟩
  | 123 => ⟨S_, .i32⟩
  | 124 => ⟨S16384x8192, .i32⟩
  | 125 => ⟨S16384x8192, .i32⟩
  | 126 => ⟨S16384x8192, .f32⟩
  | 127 => ⟨S_, .f32⟩
  | _ => ⟨S16384x64, .f32⟩

abbrev hbmTy0_2 (i : Nat) : BufTy := match i % 128 with
  | 0 => ⟨S16384x8192, .f32⟩
  | 1 => ⟨S16384x8192, .f32⟩
  | 2 => ⟨S_, .f32⟩
  | 3 => ⟨S16384x8192, .f32⟩
  | 4 => ⟨S16384x8192, .f32⟩
  | 5 => ⟨S16384x8192, .f32⟩
  | 6 => ⟨S16384x8192, .f32⟩
  | 7 => ⟨S_, .f32⟩
  | 8 => ⟨S16384x8192, .f32⟩
  | 9 => ⟨S16384x8192, .f32⟩
  | 10 => ⟨S16384x8192, .f32⟩
  | 11 => ⟨S16384x8192, .f32⟩
  | 12 => ⟨S_, .f32⟩
  | 13 => ⟨S16384x8192, .f32⟩
  | 14 => ⟨S16384x8192, .f32⟩
  | 15 => ⟨S16384x64, .f32⟩
  | 16 => ⟨S16384x1, .i32⟩
  | _ => ⟨S16384x64, .f32⟩

abbrev hbmTy (i : Nat) : BufTy := match i / 128 with
  | 0 => hbmTy0_0 i
  | 1 => hbmTy0_1 i
  | 2 => hbmTy0_2 i
  | _ => ⟨S16384x64, .f32⟩

abbrev bufTy : (tb : Table) → Fin (tcTables nBuf tb) → BufTy
  | .hbm, ⟨i, _⟩ => hbmTy i
  | .local _ .vmem, ⟨0, _⟩ => ⟨S512x64, .f32⟩
  | .local _ .vmem, ⟨1, _⟩ => ⟨S512x64, .f32⟩
  | .local _ .vmem, ⟨2, _⟩ => ⟨S64x8192, .f32⟩
  | .local _ .vmem, ⟨3, _⟩ => ⟨S8192x64, .f32⟩
  | .local _ .vmem, ⟨4, _⟩ => ⟨S512x8192, .f32⟩
  | .local _ .vmem, ⟨5, _⟩ => ⟨S512x8192, .f32⟩
  | .local _ .vmem, ⟨6, _⟩ => ⟨S512x64, .f32⟩
  | .local _ .vmem, ⟨7, _⟩ => ⟨S512x64, .f32⟩
  | .local _ .vmem, ⟨8, _⟩ => ⟨S512x1, .i32⟩
  | .local _ .vmem, ⟨9, _⟩ => ⟨S512x1, .i32⟩
  | .local _ .vmem, ⟨10, _⟩ => ⟨S1x8192, .f32⟩
  | .local _ .vmem, ⟨11, _⟩ => ⟨S8192x72, .bf16⟩
  | .local _ .smem, ⟨0, _⟩ => ⟨S1x1, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_c : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c_0 : Ref sig .tc := ⟨.hbm, 14, rfl⟩
abbrev main_call0_v9 : Ref sig .tc := ⟨.hbm, 15, rfl⟩
abbrev main_call0_c_1 : Ref sig .tc := ⟨.hbm, 16, rfl⟩
abbrev main_call0_v10 : Ref sig .tc := ⟨.hbm, 17, rfl⟩
abbrev main_call0_v11 : Ref sig .tc := ⟨.hbm, 18, rfl⟩
abbrev main_call0_c_2 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_c_3 : Ref sig .tc := ⟨.hbm, 23, rfl⟩
abbrev main_call0_v15 : Ref sig .tc := ⟨.hbm, 24, rfl⟩
abbrev main_call0_v16 : Ref sig .tc := ⟨.hbm, 25, rfl⟩
abbrev main_call0_c_4 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_v20 : Ref sig .tc := ⟨.hbm, 30, rfl⟩
abbrev main_call0_v21 : Ref sig .tc := ⟨.hbm, 31, rfl⟩
abbrev main_call0_c_5 : Ref sig .tc := ⟨.hbm, 32, rfl⟩
abbrev main_call0_v22 : Ref sig .tc := ⟨.hbm, 33, rfl⟩
abbrev main_call0_v23 : Ref sig .tc := ⟨.hbm, 34, rfl⟩
abbrev main_call0_c_6 : Ref sig .tc := ⟨.hbm, 35, rfl⟩
abbrev main_call0_v24 : Ref sig .tc := ⟨.hbm, 36, rfl⟩
abbrev main_call0_v25 : Ref sig .tc := ⟨.hbm, 37, rfl⟩
abbrev main_call0_v26 : Ref sig .tc := ⟨.hbm, 38, rfl⟩
abbrev main_call0_v27 : Ref sig .tc := ⟨.hbm, 39, rfl⟩
abbrev main_call0_v28 : Ref sig .tc := ⟨.hbm, 40, rfl⟩
abbrev main_call0_c_7 : Ref sig .tc := ⟨.hbm, 41, rfl⟩
abbrev main_call0_v29 : Ref sig .tc := ⟨.hbm, 42, rfl⟩
abbrev main_call0_v30 : Ref sig .tc := ⟨.hbm, 43, rfl⟩
abbrev main_call0_c_8 : Ref sig .tc := ⟨.hbm, 44, rfl⟩
abbrev main_call0_v31 : Ref sig .tc := ⟨.hbm, 45, rfl⟩
abbrev main_call0_v32 : Ref sig .tc := ⟨.hbm, 46, rfl⟩
abbrev main_call0_v33 : Ref sig .tc := ⟨.hbm, 47, rfl⟩
abbrev main_call0_v34 : Ref sig .tc := ⟨.hbm, 48, rfl⟩
abbrev main_call0_v35 : Ref sig .tc := ⟨.hbm, 49, rfl⟩
abbrev main_call0_c_9 : Ref sig .tc := ⟨.hbm, 50, rfl⟩
abbrev main_call0_v36 : Ref sig .tc := ⟨.hbm, 51, rfl⟩
abbrev main_call0_v37 : Ref sig .tc := ⟨.hbm, 52, rfl⟩
abbrev main_call0_c_10 : Ref sig .tc := ⟨.hbm, 53, rfl⟩
abbrev main_call0_v38 : Ref sig .tc := ⟨.hbm, 54, rfl⟩
abbrev main_call0_v39 : Ref sig .tc := ⟨.hbm, 55, rfl⟩
abbrev main_call0_v40 : Ref sig .tc := ⟨.hbm, 56, rfl⟩
abbrev main_call0_v41 : Ref sig .tc := ⟨.hbm, 57, rfl⟩
abbrev main_call0_c_11 : Ref sig .tc := ⟨.hbm, 58, rfl⟩
abbrev main_call0_v42 : Ref sig .tc := ⟨.hbm, 59, rfl⟩
abbrev main_call0_v43 : Ref sig .tc := ⟨.hbm, 60, rfl⟩
abbrev main_call0_c_12 : Ref sig .tc := ⟨.hbm, 61, rfl⟩
abbrev main_call0_v44 : Ref sig .tc := ⟨.hbm, 62, rfl⟩
abbrev main_call0_v45 : Ref sig .tc := ⟨.hbm, 63, rfl⟩
abbrev main_call0_c_13 : Ref sig .tc := ⟨.hbm, 64, rfl⟩
abbrev main_call0_v46 : Ref sig .tc := ⟨.hbm, 65, rfl⟩
abbrev main_call0_v47 : Ref sig .tc := ⟨.hbm, 66, rfl⟩
abbrev main_call0_v48 : Ref sig .tc := ⟨.hbm, 67, rfl⟩
abbrev main_call0_c_14 : Ref sig .tc := ⟨.hbm, 68, rfl⟩
abbrev main_call0_v49 : Ref sig .tc := ⟨.hbm, 69, rfl⟩
abbrev main_call0_v50 : Ref sig .tc := ⟨.hbm, 70, rfl⟩
abbrev main_call0_c_15 : Ref sig .tc := ⟨.hbm, 71, rfl⟩
abbrev main_call0_v51 : Ref sig .tc := ⟨.hbm, 72, rfl⟩
abbrev main_call0_v52 : Ref sig .tc := ⟨.hbm, 73, rfl⟩
abbrev main_call0_v53 : Ref sig .tc := ⟨.hbm, 74, rfl⟩
abbrev main_call0_v54 : Ref sig .tc := ⟨.hbm, 75, rfl⟩
abbrev main_call0_v55 : Ref sig .tc := ⟨.hbm, 76, rfl⟩
abbrev main_call0_c_16 : Ref sig .tc := ⟨.hbm, 77, rfl⟩
abbrev main_call0_v56 : Ref sig .tc := ⟨.hbm, 78, rfl⟩
abbrev main_call0_v57 : Ref sig .tc := ⟨.hbm, 79, rfl⟩
abbrev main_call0_c_17 : Ref sig .tc := ⟨.hbm, 80, rfl⟩
abbrev main_call0_v58 : Ref sig .tc := ⟨.hbm, 81, rfl⟩
abbrev main_call0_v59 : Ref sig .tc := ⟨.hbm, 82, rfl⟩
abbrev main_call0_v60 : Ref sig .tc := ⟨.hbm, 83, rfl⟩
abbrev main_call0_v61 : Ref sig .tc := ⟨.hbm, 84, rfl⟩
abbrev main_call0_v62 : Ref sig .tc := ⟨.hbm, 85, rfl⟩
abbrev main_call0_c_18 : Ref sig .tc := ⟨.hbm, 86, rfl⟩
abbrev main_call0_v63 : Ref sig .tc := ⟨.hbm, 87, rfl⟩
abbrev main_call0_v64 : Ref sig .tc := ⟨.hbm, 88, rfl⟩
abbrev main_call0_c_19 : Ref sig .tc := ⟨.hbm, 89, rfl⟩
abbrev main_call0_v65 : Ref sig .tc := ⟨.hbm, 90, rfl⟩
abbrev main_call0_v66 : Ref sig .tc := ⟨.hbm, 91, rfl⟩
abbrev main_call0_v67 : Ref sig .tc := ⟨.hbm, 92, rfl⟩
abbrev main_call0_v68 : Ref sig .tc := ⟨.hbm, 93, rfl⟩
abbrev main_call0_v69 : Ref sig .tc := ⟨.hbm, 94, rfl⟩
abbrev main_call0_c_20 : Ref sig .tc := ⟨.hbm, 95, rfl⟩
abbrev main_call0_v70 : Ref sig .tc := ⟨.hbm, 96, rfl⟩
abbrev main_call0_v71 : Ref sig .tc := ⟨.hbm, 97, rfl⟩
abbrev main_call0_c_21 : Ref sig .tc := ⟨.hbm, 98, rfl⟩
abbrev main_call0_v72 : Ref sig .tc := ⟨.hbm, 99, rfl⟩
abbrev main_call0_v73 : Ref sig .tc := ⟨.hbm, 100, rfl⟩
abbrev main_call0_v74 : Ref sig .tc := ⟨.hbm, 101, rfl⟩
abbrev main_call0_v75 : Ref sig .tc := ⟨.hbm, 102, rfl⟩
abbrev main_call0_c_22 : Ref sig .tc := ⟨.hbm, 103, rfl⟩
abbrev main_call0_v76 : Ref sig .tc := ⟨.hbm, 104, rfl⟩
abbrev main_call0_v77 : Ref sig .tc := ⟨.hbm, 105, rfl⟩
abbrev main_call0_c_23 : Ref sig .tc := ⟨.hbm, 106, rfl⟩
abbrev main_call0_v78 : Ref sig .tc := ⟨.hbm, 107, rfl⟩
abbrev main_call0_v79 : Ref sig .tc := ⟨.hbm, 108, rfl⟩
abbrev main_call0_c_24 : Ref sig .tc := ⟨.hbm, 109, rfl⟩
abbrev main_call0_v80 : Ref sig .tc := ⟨.hbm, 110, rfl⟩
abbrev main_call0_v81 : Ref sig .tc := ⟨.hbm, 111, rfl⟩
abbrev main_call0_v82 : Ref sig .tc := ⟨.hbm, 112, rfl⟩
abbrev main_call0_c_25 : Ref sig .tc := ⟨.hbm, 113, rfl⟩
abbrev main_call0_v83 : Ref sig .tc := ⟨.hbm, 114, rfl⟩
abbrev main_call0_v84 : Ref sig .tc := ⟨.hbm, 115, rfl⟩
abbrev main_call0_c_26 : Ref sig .tc := ⟨.hbm, 116, rfl⟩
abbrev main_call0_v85 : Ref sig .tc := ⟨.hbm, 117, rfl⟩
abbrev main_call0_v86 : Ref sig .tc := ⟨.hbm, 118, rfl⟩
abbrev main_call0_v87 : Ref sig .tc := ⟨.hbm, 119, rfl⟩
abbrev main_call0_v88 : Ref sig .tc := ⟨.hbm, 120, rfl⟩
abbrev main_call0_v89 : Ref sig .tc := ⟨.hbm, 121, rfl⟩
abbrev main_call0_c_27 : Ref sig .tc := ⟨.hbm, 122, rfl⟩
abbrev main_call0_v90 : Ref sig .tc := ⟨.hbm, 123, rfl⟩
abbrev main_call0_v91 : Ref sig .tc := ⟨.hbm, 124, rfl⟩
abbrev main_call0_c_28 : Ref sig .tc := ⟨.hbm, 125, rfl⟩
abbrev main_call0_v92 : Ref sig .tc := ⟨.hbm, 126, rfl⟩
abbrev main_call0_v93 : Ref sig .tc := ⟨.hbm, 127, rfl⟩
abbrev main_call0_v94 : Ref sig .tc := ⟨.hbm, 128, rfl⟩
abbrev main_call0_v95 : Ref sig .tc := ⟨.hbm, 129, rfl⟩
abbrev main_call0_v96 : Ref sig .tc := ⟨.hbm, 130, rfl⟩
abbrev main_call0_c_29 : Ref sig .tc := ⟨.hbm, 131, rfl⟩
abbrev main_call0_v97 : Ref sig .tc := ⟨.hbm, 132, rfl⟩
abbrev main_call0_v98 : Ref sig .tc := ⟨.hbm, 133, rfl⟩
abbrev main_call0_c_30 : Ref sig .tc := ⟨.hbm, 134, rfl⟩
abbrev main_call0_v99 : Ref sig .tc := ⟨.hbm, 135, rfl⟩
abbrev main_call0_v100 : Ref sig .tc := ⟨.hbm, 136, rfl⟩
abbrev main_call0_v101 : Ref sig .tc := ⟨.hbm, 137, rfl⟩
abbrev main_call0_v102 : Ref sig .tc := ⟨.hbm, 138, rfl⟩
abbrev main_call0_v103 : Ref sig .tc := ⟨.hbm, 139, rfl⟩
abbrev main_call0_c_31 : Ref sig .tc := ⟨.hbm, 140, rfl⟩
abbrev main_call0_v104 : Ref sig .tc := ⟨.hbm, 141, rfl⟩
abbrev main_call0_v105 : Ref sig .tc := ⟨.hbm, 142, rfl⟩
abbrev main_call0_c_32 : Ref sig .tc := ⟨.hbm, 143, rfl⟩
abbrev main_call0_v106 : Ref sig .tc := ⟨.hbm, 144, rfl⟩
abbrev main_call0_v107 : Ref sig .tc := ⟨.hbm, 145, rfl⟩
abbrev main_call0_v108 : Ref sig .tc := ⟨.hbm, 146, rfl⟩
abbrev main_call0_v109 : Ref sig .tc := ⟨.hbm, 147, rfl⟩
abbrev main_call0_c_33 : Ref sig .tc := ⟨.hbm, 148, rfl⟩
abbrev main_call0_v110 : Ref sig .tc := ⟨.hbm, 149, rfl⟩
abbrev main_call0_v111 : Ref sig .tc := ⟨.hbm, 150, rfl⟩
abbrev main_call0_c_34 : Ref sig .tc := ⟨.hbm, 151, rfl⟩
abbrev main_call0_v112 : Ref sig .tc := ⟨.hbm, 152, rfl⟩
abbrev main_call0_v113 : Ref sig .tc := ⟨.hbm, 153, rfl⟩
abbrev main_call0_c_35 : Ref sig .tc := ⟨.hbm, 154, rfl⟩
abbrev main_call0_v114 : Ref sig .tc := ⟨.hbm, 155, rfl⟩
abbrev main_call0_v115 : Ref sig .tc := ⟨.hbm, 156, rfl⟩
abbrev main_call0_v116 : Ref sig .tc := ⟨.hbm, 157, rfl⟩
abbrev main_call0_c_36 : Ref sig .tc := ⟨.hbm, 158, rfl⟩
abbrev main_call0_v117 : Ref sig .tc := ⟨.hbm, 159, rfl⟩
abbrev main_call0_v118 : Ref sig .tc := ⟨.hbm, 160, rfl⟩
abbrev main_call0_c_37 : Ref sig .tc := ⟨.hbm, 161, rfl⟩
abbrev main_call0_v119 : Ref sig .tc := ⟨.hbm, 162, rfl⟩
abbrev main_call0_v120 : Ref sig .tc := ⟨.hbm, 163, rfl⟩
abbrev main_call0_v121 : Ref sig .tc := ⟨.hbm, 164, rfl⟩
abbrev main_call0_v122 : Ref sig .tc := ⟨.hbm, 165, rfl⟩
abbrev main_call0_v123 : Ref sig .tc := ⟨.hbm, 166, rfl⟩
abbrev main_call0_c_38 : Ref sig .tc := ⟨.hbm, 167, rfl⟩
abbrev main_call0_v124 : Ref sig .tc := ⟨.hbm, 168, rfl⟩
abbrev main_call0_v125 : Ref sig .tc := ⟨.hbm, 169, rfl⟩
abbrev main_call0_c_39 : Ref sig .tc := ⟨.hbm, 170, rfl⟩
abbrev main_call0_v126 : Ref sig .tc := ⟨.hbm, 171, rfl⟩
abbrev main_call0_v127 : Ref sig .tc := ⟨.hbm, 172, rfl⟩
abbrev main_call0_v128 : Ref sig .tc := ⟨.hbm, 173, rfl⟩
abbrev main_call0_v129 : Ref sig .tc := ⟨.hbm, 174, rfl⟩
abbrev main_call0_v130 : Ref sig .tc := ⟨.hbm, 175, rfl⟩
abbrev main_call0_c_40 : Ref sig .tc := ⟨.hbm, 176, rfl⟩
abbrev main_call0_v131 : Ref sig .tc := ⟨.hbm, 177, rfl⟩
abbrev main_call0_v132 : Ref sig .tc := ⟨.hbm, 178, rfl⟩
abbrev main_call0_c_41 : Ref sig .tc := ⟨.hbm, 179, rfl⟩
abbrev main_call0_v133 : Ref sig .tc := ⟨.hbm, 180, rfl⟩
abbrev main_call0_v134 : Ref sig .tc := ⟨.hbm, 181, rfl⟩
abbrev main_call0_v135 : Ref sig .tc := ⟨.hbm, 182, rfl⟩
abbrev main_call0_v136 : Ref sig .tc := ⟨.hbm, 183, rfl⟩
abbrev main_call0_v137 : Ref sig .tc := ⟨.hbm, 184, rfl⟩
abbrev main_call0_c_42 : Ref sig .tc := ⟨.hbm, 185, rfl⟩
abbrev main_call0_v138 : Ref sig .tc := ⟨.hbm, 186, rfl⟩
abbrev main_call0_v139 : Ref sig .tc := ⟨.hbm, 187, rfl⟩
abbrev main_call0_c_43 : Ref sig .tc := ⟨.hbm, 188, rfl⟩
abbrev main_call0_v140 : Ref sig .tc := ⟨.hbm, 189, rfl⟩
abbrev main_call0_v141 : Ref sig .tc := ⟨.hbm, 190, rfl⟩
abbrev main_call0_v142 : Ref sig .tc := ⟨.hbm, 191, rfl⟩
abbrev main_call0_v143 : Ref sig .tc := ⟨.hbm, 192, rfl⟩
abbrev main_call0_c_44 : Ref sig .tc := ⟨.hbm, 193, rfl⟩
abbrev main_call0_v144 : Ref sig .tc := ⟨.hbm, 194, rfl⟩
abbrev main_call0_v145 : Ref sig .tc := ⟨.hbm, 195, rfl⟩
abbrev main_call0_c_45 : Ref sig .tc := ⟨.hbm, 196, rfl⟩
abbrev main_call0_v146 : Ref sig .tc := ⟨.hbm, 197, rfl⟩
abbrev main_call0_v147 : Ref sig .tc := ⟨.hbm, 198, rfl⟩
abbrev main_call0_c_46 : Ref sig .tc := ⟨.hbm, 199, rfl⟩
abbrev main_call0_v148 : Ref sig .tc := ⟨.hbm, 200, rfl⟩
abbrev main_call0_v149 : Ref sig .tc := ⟨.hbm, 201, rfl⟩
abbrev main_call0_v150 : Ref sig .tc := ⟨.hbm, 202, rfl⟩
abbrev main_call0_c_47 : Ref sig .tc := ⟨.hbm, 203, rfl⟩
abbrev main_call0_v151 : Ref sig .tc := ⟨.hbm, 204, rfl⟩
abbrev main_call0_v152 : Ref sig .tc := ⟨.hbm, 205, rfl⟩
abbrev main_call0_c_48 : Ref sig .tc := ⟨.hbm, 206, rfl⟩
abbrev main_call0_v153 : Ref sig .tc := ⟨.hbm, 207, rfl⟩
abbrev main_call0_v154 : Ref sig .tc := ⟨.hbm, 208, rfl⟩
abbrev main_call0_v155 : Ref sig .tc := ⟨.hbm, 209, rfl⟩
abbrev main_call0_v156 : Ref sig .tc := ⟨.hbm, 210, rfl⟩
abbrev main_call0_v157 : Ref sig .tc := ⟨.hbm, 211, rfl⟩
abbrev main_call0_c_49 : Ref sig .tc := ⟨.hbm, 212, rfl⟩
abbrev main_call0_v158 : Ref sig .tc := ⟨.hbm, 213, rfl⟩
abbrev main_call0_v159 : Ref sig .tc := ⟨.hbm, 214, rfl⟩
abbrev main_call0_c_50 : Ref sig .tc := ⟨.hbm, 215, rfl⟩
abbrev main_call0_v160 : Ref sig .tc := ⟨.hbm, 216, rfl⟩
abbrev main_call0_v161 : Ref sig .tc := ⟨.hbm, 217, rfl⟩
abbrev main_call0_v162 : Ref sig .tc := ⟨.hbm, 218, rfl⟩
abbrev main_call0_v163 : Ref sig .tc := ⟨.hbm, 219, rfl⟩
abbrev main_call0_v164 : Ref sig .tc := ⟨.hbm, 220, rfl⟩
abbrev main_call0_c_51 : Ref sig .tc := ⟨.hbm, 221, rfl⟩
abbrev main_call0_v165 : Ref sig .tc := ⟨.hbm, 222, rfl⟩
abbrev main_call0_v166 : Ref sig .tc := ⟨.hbm, 223, rfl⟩
abbrev main_call0_c_52 : Ref sig .tc := ⟨.hbm, 224, rfl⟩
abbrev main_call0_v167 : Ref sig .tc := ⟨.hbm, 225, rfl⟩
abbrev main_call0_v168 : Ref sig .tc := ⟨.hbm, 226, rfl⟩
abbrev main_call0_v169 : Ref sig .tc := ⟨.hbm, 227, rfl⟩
abbrev main_call0_v170 : Ref sig .tc := ⟨.hbm, 228, rfl⟩
abbrev main_call0_v171 : Ref sig .tc := ⟨.hbm, 229, rfl⟩
abbrev main_call0_c_53 : Ref sig .tc := ⟨.hbm, 230, rfl⟩
abbrev main_call0_v172 : Ref sig .tc := ⟨.hbm, 231, rfl⟩
abbrev main_call0_v173 : Ref sig .tc := ⟨.hbm, 232, rfl⟩
abbrev main_call0_c_54 : Ref sig .tc := ⟨.hbm, 233, rfl⟩
abbrev main_call0_v174 : Ref sig .tc := ⟨.hbm, 234, rfl⟩
abbrev main_call0_v175 : Ref sig .tc := ⟨.hbm, 235, rfl⟩
abbrev main_call0_v176 : Ref sig .tc := ⟨.hbm, 236, rfl⟩
abbrev main_call0_v177 : Ref sig .tc := ⟨.hbm, 237, rfl⟩
abbrev main_call0_c_55 : Ref sig .tc := ⟨.hbm, 238, rfl⟩
abbrev main_call0_v178 : Ref sig .tc := ⟨.hbm, 239, rfl⟩
abbrev main_call0_v179 : Ref sig .tc := ⟨.hbm, 240, rfl⟩
abbrev main_call0_c_56 : Ref sig .tc := ⟨.hbm, 241, rfl⟩
abbrev main_call0_v180 : Ref sig .tc := ⟨.hbm, 242, rfl⟩
abbrev main_call0_v181 : Ref sig .tc := ⟨.hbm, 243, rfl⟩
abbrev main_call0_c_57 : Ref sig .tc := ⟨.hbm, 244, rfl⟩
abbrev main_call0_v182 : Ref sig .tc := ⟨.hbm, 245, rfl⟩
abbrev main_call0_v183 : Ref sig .tc := ⟨.hbm, 246, rfl⟩
abbrev main_call0_v184 : Ref sig .tc := ⟨.hbm, 247, rfl⟩
abbrev main_call0_c_58 : Ref sig .tc := ⟨.hbm, 248, rfl⟩
abbrev main_call0_v185 : Ref sig .tc := ⟨.hbm, 249, rfl⟩
abbrev main_call0_v186 : Ref sig .tc := ⟨.hbm, 250, rfl⟩
abbrev main_call0_c_59 : Ref sig .tc := ⟨.hbm, 251, rfl⟩
abbrev main_call0_v187 : Ref sig .tc := ⟨.hbm, 252, rfl⟩
abbrev main_call0_v188 : Ref sig .tc := ⟨.hbm, 253, rfl⟩
abbrev main_call0_v189 : Ref sig .tc := ⟨.hbm, 254, rfl⟩
abbrev main_call0_cst_60 : Ref sig .tc := ⟨.hbm, 255, rfl⟩
abbrev main_call0_v190 : Ref sig .tc := ⟨.hbm, 256, rfl⟩
abbrev main_call0_v191 : Ref sig .tc := ⟨.hbm, 257, rfl⟩
abbrev main_call0_cst_61 : Ref sig .tc := ⟨.hbm, 258, rfl⟩
abbrev main_call0_v192 : Ref sig .tc := ⟨.hbm, 259, rfl⟩
abbrev main_call0_v193 : Ref sig .tc := ⟨.hbm, 260, rfl⟩
abbrev main_call0_v194 : Ref sig .tc := ⟨.hbm, 261, rfl⟩
abbrev main_call0_v195 : Ref sig .tc := ⟨.hbm, 262, rfl⟩
abbrev main_call0_cst_62 : Ref sig .tc := ⟨.hbm, 263, rfl⟩
abbrev main_call0_v196 : Ref sig .tc := ⟨.hbm, 264, rfl⟩
abbrev main_call0_v197 : Ref sig .tc := ⟨.hbm, 265, rfl⟩
abbrev main_call0_v198 : Ref sig .tc := ⟨.hbm, 266, rfl⟩
abbrev main_call0_v199 : Ref sig .tc := ⟨.hbm, 267, rfl⟩
abbrev main_call0_cst_63 : Ref sig .tc := ⟨.hbm, 268, rfl⟩
abbrev main_call0_v200 : Ref sig .tc := ⟨.hbm, 269, rfl⟩
abbrev main_call0_v201 : Ref sig .tc := ⟨.hbm, 270, rfl⟩
abbrev main_v0_0 : Ref sig .tc := ⟨.hbm, 271, rfl⟩
abbrev main_v0_1 : Ref sig .tc := ⟨.hbm, 272, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg4_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S16384x64 : Shape := ⟨2, ![16384, 64]⟩
abbrev S8192x64 : Shape := ⟨2, ![8192, 64]⟩
abbrev S_ : Shape := ⟨0, ![]⟩
abbrev S16384 : Shape := ⟨1, ![16384]⟩
abbrev S16384x1 : Shape := ⟨2, ![16384, 1]⟩
abbrev S64x8192 : Shape := ⟨2, ![64, 8192]⟩
abbrev S8192 : Shape := ⟨1, ![8192]⟩
abbrev S1x8192 : Shape := ⟨2, ![1, 8192]⟩
abbrev S16384x8192 : Shape := ⟨2, ![16384, 8192]⟩
abbrev S1 : Shape := ⟨1, ![1]⟩
abbrev S2 : Shape := ⟨1, ![2]⟩
abbrev S1x1 : Shape := ⟨2, ![1, 1]⟩

abbrev nBuf : Space → Nat
  | .hbm => 332
  | .vmem => 0
  | .smem => 0
  | _ => 0

abbrev hbmTy0_0 (i : Nat) : BufTy := match i % 128 with
  | 0 => ⟨S16384x64, .f32⟩
  | 1 => ⟨S8192x64, .f32⟩
  | 2 => ⟨S_, .i32⟩
  | 3 => ⟨S16384x64, .f32⟩
  | 4 => ⟨S_, .f32⟩
  | 5 => ⟨S16384, .f32⟩
  | 6 => ⟨S16384x1, .f32⟩
  | 7 => ⟨S64x8192, .f32⟩
  | 8 => ⟨S64x8192, .f32⟩
  | 9 => ⟨S_, .f32⟩
  | 10 => ⟨S8192, .f32⟩
  | 11 => ⟨S1x8192, .f32⟩
  | 12 => ⟨S16384x8192, .f32⟩
  | 13 => ⟨S16384x8192, .f32⟩
  | 14 => ⟨S16384x8192, .f32⟩
  | 15 => ⟨S64x8192, .f32⟩
  | 16 => ⟨S16384x8192, .f32⟩
  | 17 => ⟨S_, .f32⟩
  | 18 => ⟨S16384x8192, .f32⟩
  | 19 => ⟨S16384x8192, .f32⟩
  | 20 => ⟨S16384x8192, .f32⟩
  | 21 => ⟨S16384x8192, .f32⟩
  | 22 => ⟨S16384x8192, .i32⟩
  | 23 => ⟨S_, .f32⟩
  | 24 => ⟨S_, .i32⟩
  | 25 => ⟨S16384, .f32⟩
  | 26 => ⟨S16384, .i32⟩
  | 27 => ⟨S16384x1, .i32⟩
  | 28 => ⟨S_, .i32⟩
  | 29 => ⟨S_, .i32⟩
  | 30 => ⟨S_, .i32⟩
  | 31 => ⟨S_, .i32⟩
  | 32 => ⟨S1, .i32⟩
  | 33 => ⟨S_, .i32⟩
  | 34 => ⟨S_, .i32⟩
  | 35 => ⟨S_, .i32⟩
  | 36 => ⟨S1, .i32⟩
  | 37 => ⟨S2, .i32⟩
  | 38 => ⟨S_, .f32⟩
  | 39 => ⟨S_, .f32⟩
  | 40 => ⟨S_, .f32⟩
  | 41 => ⟨S_, .f32⟩
  | 42 => ⟨S1x1, .f32⟩
  | 43 => ⟨S1x1, .f32⟩
  | 44 => ⟨S1, .i32⟩
  | 45 => ⟨S_, .i32⟩
  | 46 => ⟨S1, .i32⟩
  | 47 => ⟨S_, .i32⟩
  | 48 => ⟨S16384x8192, .i64⟩
  | 49 => ⟨S16384x8192, .i64⟩
  | 50 => ⟨S_, .i64⟩
  | 51 => ⟨S16384x8192, .i64⟩
  | 52 => ⟨S16384x8192, .i64⟩
  | 53 => ⟨S_, .i64⟩
  | 54 => ⟨S16384x8192, .i64⟩
  | 55 => ⟨S16384x8192, .i64⟩
  | 56 => ⟨S16384x8192, .i64⟩
  | 57 => ⟨S_, .i64⟩
  | 58 => ⟨S16384x8192, .i64⟩
  | 59 => ⟨S16384x8192, .i64⟩
  | 60 => ⟨S16384x8192, .i32⟩
  | 61 => ⟨S16384x8192, .i32⟩
  | 62 => ⟨S_, .i32⟩
  | 63 => ⟨S_, .i32⟩
  | 64 => ⟨S_, .i32⟩
  | 65 => ⟨S16384x8192, .i32⟩
  | 66 => ⟨S16384x8192, .i32⟩
  | 67 => ⟨S16384x8192, .i32⟩
  | 68 => ⟨S16384x8192, .i32⟩
  | 69 => ⟨S16384x8192, .i32⟩
  | 70 => ⟨S_, .i32⟩
  | 71 => ⟨S16384x8192, .i32⟩
  | 72 => ⟨S16384x8192, .i32⟩
  | 73 => ⟨S_, .i32⟩
  | 74 => ⟨S16384x8192, .i32⟩
  | 75 => ⟨S16384x8192, .i32⟩
  | 76 => ⟨S16384x8192, .i32⟩
  | 77 => ⟨S16384x8192, .i32⟩
  | 78 => ⟨S16384x8192, .i32⟩
  | 79 => ⟨S_, .i32⟩
  | 80 => ⟨S16384x8192, .i32⟩
  | 81 => ⟨S16384x8192, .i32⟩
  | 82 => ⟨S_, .i32⟩
  | 83 => ⟨S16384x8192, .i32⟩
  | 84 => ⟨S16384x8192, .i32⟩
  | 85 => ⟨S16384x8192, .i32⟩
  | 86 => ⟨S16384x8192, .i32⟩
  | 87 => ⟨S16384x8192, .i32⟩
  | 88 => ⟨S_, .i32⟩
  | 89 => ⟨S16384x8192, .i32⟩
  | 90 => ⟨S16384x8192, .i32⟩
  | 91 => ⟨S_, .i32⟩
  | 92 => ⟨S16384x8192, .i32⟩
  | 93 => ⟨S16384x8192, .i32⟩
  | 94 => ⟨S16384x8192, .i32⟩
  | 95 => ⟨S16384x8192, .i32⟩
  | 96 => ⟨S16384x8192, .i32⟩
  | 97 => ⟨S_, .i32⟩
  | 98 => ⟨S16384x8192, .i32⟩
  | 99 => ⟨S16384x8192, .i32⟩
  | 100 => ⟨S_, .i32⟩
  | 101 => ⟨S16384x8192, .i32⟩
  | 102 => ⟨S16384x8192, .i32⟩
  | 103 => ⟨S16384x8192, .i32⟩
  | 104 => ⟨S16384x8192, .i32⟩
  | 105 => ⟨S16384x8192, .i32⟩
  | 106 => ⟨S16384x8192, .i32⟩
  | 107 => ⟨S16384x8192, .i32⟩
  | 108 => ⟨S16384x8192, .i32⟩
  | 109 => ⟨S_, .i32⟩
  | 110 => ⟨S16384x8192, .i32⟩
  | 111 => ⟨S16384x8192, .i32⟩
  | 112 => ⟨S16384x8192, .i32⟩
  | 113 => ⟨S_, .i32⟩
  | 114 => ⟨S16384x8192, .i32⟩
  | 115 => ⟨S16384x8192, .i32⟩
  | 116 => ⟨S_, .i32⟩
  | 117 => ⟨S16384x8192, .i32⟩
  | 118 => ⟨S16384x8192, .i32⟩
  | 119 => ⟨S16384x8192, .i32⟩
  | 120 => ⟨S16384x8192, .i32⟩
  | 121 => ⟨S16384x8192, .i32⟩
  | 122 => ⟨S_, .i32⟩
  | 123 => ⟨S16384x8192, .i32⟩
  | 124 => ⟨S16384x8192, .i32⟩
  | 125 => ⟨S_, .i32⟩
  | 126 => ⟨S16384x8192, .i32⟩
  | 127 => ⟨S16384x8192, .i32⟩
  | _ => ⟨S16384x64, .f32⟩

abbrev hbmTy0_1 (i : Nat) : BufTy := match i % 128 with
  | 0 => ⟨S16384x8192, .i32⟩
  | 1 => ⟨S16384x8192, .i32⟩
  | 2 => ⟨S16384x8192, .i32⟩
  | 3 => ⟨S_, .i32⟩
  | 4 => ⟨S16384x8192, .i32⟩
  | 5 => ⟨S16384x8192, .i32⟩
  | 6 => ⟨S_, .i32⟩
  | 7 => ⟨S16384x8192, .i32⟩
  | 8 => ⟨S16384x8192, .i32⟩
  | 9 => ⟨S16384x8192, .i32⟩
  | 10 => ⟨S16384x8192, .i32⟩
  | 11 => ⟨S16384x8192, .i32⟩
  | 12 => ⟨S_, .i32⟩
  | 13 => ⟨S16384x8192, .i32⟩
  | 14 => ⟨S16384x8192, .i32⟩
  | 15 => ⟨S_, .i32⟩
  | 16 => ⟨S16384x8192, .i32⟩
  | 17 => ⟨S16384x8192, .i32⟩
  | 18 => ⟨S16384x8192, .i32⟩
  | 19 => ⟨S16384x8192, .i32⟩
  | 20 => ⟨S16384x8192, .i32⟩
  | 21 => ⟨S16384x8192, .i32⟩
  | 22 => ⟨S16384x8192, .i32⟩
  | 23 => ⟨S16384x8192, .i32⟩
  | 24 => ⟨S_, .i32⟩
  | 25 => ⟨S16384x8192, .i32⟩
  | 26 => ⟨S16384x8192, .i32⟩
  | 27 => ⟨S16384x8192, .i32⟩
  | 28 => ⟨S_, .i32⟩
  | 29 => ⟨S16384x8192, .i32⟩
  | 30 => ⟨S16384x8192, .i32⟩
  | 31 => ⟨S_, .i32⟩
  | 32 => ⟨S16384x8192, .i32⟩
  | 33 => ⟨S16384x8192, .i32⟩
  | 34 => ⟨S16384x8192, .i32⟩
  | 35 => ⟨S16384x8192, .i32⟩
  | 36 => ⟨S16384x8192, .i32⟩
  | 37 => ⟨S_, .i32⟩
  | 38 => ⟨S16384x8192, .i32⟩
  | 39 => ⟨S16384x8192, .i32⟩
  | 40 => ⟨S_, .i32⟩
  | 41 => ⟨S16384x8192, .i32⟩
  | 42 => ⟨S16384x8192, .i32⟩
  | 43 => ⟨S16384x8192, .i32⟩
  | 44 => ⟨S16384x8192, .i32⟩
  | 45 => ⟨S16384x8192, .i32⟩
  | 46 => ⟨S_, .i32⟩
  | 47 => ⟨S16384x8192, .i32⟩
  | 48 => ⟨S16384x8192, .i32⟩
  | 49 => ⟨S_, .i32⟩
  | 50 => ⟨S16384x8192, .i32⟩
  | 51 => ⟨S16384x8192, .i32⟩
  | 52 => ⟨S16384x8192, .i32⟩
  | 53 => ⟨S16384x8192, .i32⟩
  | 54 => ⟨S16384x8192, .i32⟩
  | 55 => ⟨S_, .i32⟩
  | 56 => ⟨S16384x8192, .i32⟩
  | 57 => ⟨S16384x8192, .i32⟩
  | 58 => ⟨S_, .i32⟩
  | 59 => ⟨S16384x8192, .i32⟩
  | 60 => ⟨S16384x8192, .i32⟩
  | 61 => ⟨S16384x8192, .i32⟩
  | 62 => ⟨S16384x8192, .i32⟩
  | 63 => ⟨S16384x8192, .i32⟩
  | 64 => ⟨S16384x8192, .i32⟩
  | 65 => ⟨S16384x8192, .i32⟩
  | 66 => ⟨S16384x8192, .i32⟩
  | 67 => ⟨S_, .i32⟩
  | 68 => ⟨S16384x8192, .i32⟩
  | 69 => ⟨S16384x8192, .i32⟩
  | 70 => ⟨S16384x8192, .i32⟩
  | 71 => ⟨S_, .i32⟩
  | 72 => ⟨S16384x8192, .i32⟩
  | 73 => ⟨S16384x8192, .i32⟩
  | 74 => ⟨S_, .i32⟩
  | 75 => ⟨S16384x8192, .i32⟩
  | 76 => ⟨S16384x8192, .i32⟩
  | 77 => ⟨S16384x8192, .i32⟩
  | 78 => ⟨S16384x8192, .i32⟩
  | 79 => ⟨S16384x8192, .i32⟩
  | 80 => ⟨S_, .i32⟩
  | 81 => ⟨S16384x8192, .i32⟩
  | 82 => ⟨S16384x8192, .i32⟩
  | 83 => ⟨S_, .i32⟩
  | 84 => ⟨S16384x8192, .i32⟩
  | 85 => ⟨S16384x8192, .i32⟩
  | 86 => ⟨S16384x8192, .i32⟩
  | 87 => ⟨S16384x8192, .i32⟩
  | 88 => ⟨S16384x8192, .i32⟩
  | 89 => ⟨S_, .i32⟩
  | 90 => ⟨S16384x8192, .i32⟩
  | 91 => ⟨S16384x8192, .i32⟩
  | 92 => ⟨S_, .i32⟩
  | 93 => ⟨S16384x8192, .i32⟩
  | 94 => ⟨S16384x8192, .i32⟩
  | 95 => ⟨S16384x8192, .i32⟩
  | 96 => ⟨S16384x8192, .i32⟩
  | 97 => ⟨S16384x8192, .i32⟩
  | 98 => ⟨S_, .i32⟩
  | 99 => ⟨S16384x8192, .i32⟩
  | 100 => ⟨S16384x8192, .i32⟩
  | 101 => ⟨S_, .i32⟩
  | 102 => ⟨S16384x8192, .i32⟩
  | 103 => ⟨S16384x8192, .i32⟩
  | 104 => ⟨S16384x8192, .i32⟩
  | 105 => ⟨S16384x8192, .i32⟩
  | 106 => ⟨S16384x8192, .i32⟩
  | 107 => ⟨S16384x8192, .i32⟩
  | 108 => ⟨S16384x8192, .i32⟩
  | 109 => ⟨S16384x8192, .i32⟩
  | 110 => ⟨S_, .i32⟩
  | 111 => ⟨S16384x8192, .i32⟩
  | 112 => ⟨S16384x8192, .i32⟩
  | 113 => ⟨S16384x8192, .i32⟩
  | 114 => ⟨S_, .i32⟩
  | 115 => ⟨S16384x8192, .i32⟩
  | 116 => ⟨S16384x8192, .i32⟩
  | 117 => ⟨S_, .i32⟩
  | 118 => ⟨S16384x8192, .i32⟩
  | 119 => ⟨S16384x8192, .i32⟩
  | 120 => ⟨S16384x8192, .i32⟩
  | 121 => ⟨S16384x8192, .i32⟩
  | 122 => ⟨S16384x8192, .i32⟩
  | 123 => ⟨S_, .i32⟩
  | 124 => ⟨S16384x8192, .i32⟩
  | 125 => ⟨S16384x8192, .i32⟩
  | 126 => ⟨S_, .i32⟩
  | 127 => ⟨S16384x8192, .i32⟩
  | _ => ⟨S16384x64, .f32⟩

abbrev hbmTy0_2 (i : Nat) : BufTy := match i % 128 with
  | 0 => ⟨S16384x8192, .i32⟩
  | 1 => ⟨S16384x8192, .i32⟩
  | 2 => ⟨S16384x8192, .i32⟩
  | 3 => ⟨S16384x8192, .i32⟩
  | 4 => ⟨S_, .i32⟩
  | 5 => ⟨S16384x8192, .i32⟩
  | 6 => ⟨S16384x8192, .i32⟩
  | 7 => ⟨S_, .i32⟩
  | 8 => ⟨S16384x8192, .i32⟩
  | 9 => ⟨S16384x8192, .i32⟩
  | 10 => ⟨S16384x8192, .i32⟩
  | 11 => ⟨S16384x8192, .i32⟩
  | 12 => ⟨S16384x8192, .i32⟩
  | 13 => ⟨S_, .i32⟩
  | 14 => ⟨S16384x8192, .i32⟩
  | 15 => ⟨S16384x8192, .i32⟩
  | 16 => ⟨S_, .i32⟩
  | 17 => ⟨S16384x8192, .i32⟩
  | 18 => ⟨S16384x8192, .i32⟩
  | 19 => ⟨S16384x8192, .i32⟩
  | 20 => ⟨S16384x8192, .i32⟩
  | 21 => ⟨S16384x8192, .i32⟩
  | 22 => ⟨S16384x8192, .i32⟩
  | 23 => ⟨S16384x8192, .i32⟩
  | 24 => ⟨S16384x8192, .i32⟩
  | 25 => ⟨S_, .i32⟩
  | 26 => ⟨S16384x8192, .i32⟩
  | 27 => ⟨S16384x8192, .i32⟩
  | 28 => ⟨S16384x8192, .i32⟩
  | 29 => ⟨S_, .i32⟩
  | 30 => ⟨S16384x8192, .i32⟩
  | 31 => ⟨S16384x8192, .i32⟩
  | 32 => ⟨S_, .i32⟩
  | 33 => ⟨S16384x8192, .i32⟩
  | 34 => ⟨S16384x8192, .i32⟩
  | 35 => ⟨S16384x8192, .f32⟩
  | 36 => ⟨S_, .f32⟩
  | 37 => ⟨S16384x8192, .f32⟩
  | 38 => ⟨S16384x8192, .f32⟩
  | 39 => ⟨S1x1, .f32⟩
  | 40 => ⟨S16384x8192, .f32⟩
  | 41 => ⟨S16384x8192, .f32⟩
  | 42 => ⟨S16384x8192, .f32⟩
  | 43 => ⟨S16384x8192, .f32⟩
  | 44 => ⟨S16384x8192, .f32⟩
  | 45 => ⟨S16384x8192, .f32⟩
  | 46 => ⟨S_, .f32⟩
  | 47 => ⟨S16384x8192, .f32⟩
  | 48 => ⟨S16384x8192, .f32⟩
  | 49 => ⟨S16384x8192, .f32⟩
  | 50 => ⟨S16384x8192, .f32⟩
  | 51 => ⟨S_, .f32⟩
  | 52 => ⟨S16384x8192, .f32⟩
  | 53 => ⟨S16384x8192, .f32⟩
  | 54 => ⟨S16384x8192, .f32⟩
  | 55 => ⟨S16384x8192, .f32⟩
  | 56 => ⟨S16384x8192, .f32⟩
  | 57 => ⟨S16384x8192, .f32⟩
  | 58 => ⟨S_, .f32⟩
  | 59 => ⟨S16384x8192, .f32⟩
  | 60 => ⟨S16384x8192, .f32⟩
  | 61 => ⟨S_, .f32⟩
  | 62 => ⟨S16384, .f32⟩
  | 63 => ⟨S_, .f32⟩
  | 64 => ⟨S16384, .f32⟩
  | 65 => ⟨S16384, .f32⟩
  | 66 => ⟨S16384x1, .f32⟩
  | 67 => ⟨S16384x8192, .f32⟩
  | 68 => ⟨S16384x8192, .f32⟩
  | 69 => ⟨S16384x8192, .f32⟩
  | 70 => ⟨S_, .f32⟩
  | 71 => ⟨S16384, .f32⟩
  | 72 => ⟨S16384x1, .f32⟩
  | 73 => ⟨S16384x8192, .f32⟩
  | 74 => ⟨S16384x8192, .f32⟩
  | 75 => ⟨S16384x64, .f32⟩
  | _ => ⟨S16384x64, .f32⟩

abbrev hbmTy (i : Nat) : BufTy := match i / 128 with
  | 0 => hbmTy0_0 i
  | 1 => hbmTy0_1 i
  | 2 => hbmTy0_2 i
  | _ => ⟨S16384x64, .f32⟩

abbrev bufTy : (tb : Table) → Fin (tcTables nBuf tb) → BufTy
  | .hbm, ⟨i, _⟩ => hbmTy i
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_cst : Ref sig .tc := ⟨.hbm, 23, rfl⟩
abbrev main_call0_c : Ref sig .tc := ⟨.hbm, 24, rfl⟩
abbrev main_call0_v1_0 : Ref sig .tc := ⟨.hbm, 25, rfl⟩
abbrev main_v16 : Ref sig .tc := ⟨.hbm, 26, rfl⟩
abbrev main_v17 : Ref sig .tc := ⟨.hbm, 27, rfl⟩
abbrev main_c : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_cst_5 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_call1_v5 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_c : Ref sig .tc := ⟨.hbm, 50, rfl⟩
abbrev main_call1_v10 : Ref sig .tc := ⟨.hbm, 51, rfl⟩
abbrev main_call1_v11 : Ref sig .tc := ⟨.hbm, 52, rfl⟩
abbrev main_call1_c_0 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_c_1 : Ref sig .tc := ⟨.hbm, 57, rfl⟩
abbrev main_call1_v15 : Ref sig .tc := ⟨.hbm, 58, rfl⟩
abbrev main_call1_v16 : Ref sig .tc := ⟨.hbm, 59, rfl⟩
abbrev main_call1_v17 : Ref sig .tc := ⟨.hbm, 60, rfl⟩
abbrev main_call1_v18 : Ref sig .tc := ⟨.hbm, 61, rfl⟩
abbrev main_call1_call0_v0 : Ref sig .tc := ⟨.hbm, 62, rfl⟩
abbrev main_call1_call0_c : Ref sig .tc := ⟨.hbm, 63, rfl⟩
abbrev main_call1_call0_v1 : Ref sig .tc := ⟨.hbm, 64, rfl⟩
abbrev main_call1_call0_v2 : Ref sig .tc := ⟨.hbm, 65, rfl⟩
abbrev main_call1_call0_v3 : Ref sig .tc := ⟨.hbm, 66, rfl⟩
abbrev main_call1_call0_v4 : Ref sig .tc := ⟨.hbm, 67, rfl⟩
abbrev main_call1_call0_v5 : Ref sig .tc := ⟨.hbm, 68, rfl⟩
abbrev main_call1_call0_v6 : Ref sig .tc := ⟨.hbm, 69, rfl⟩
abbrev main_call1_call0_c_0 : Ref sig .tc := ⟨.hbm, 70, rfl⟩
abbrev main_call1_call0_v7 : Ref sig .tc := ⟨.hbm, 71, rfl⟩
abbrev main_call1_call0_v8 : Ref sig .tc := ⟨.hbm, 72, rfl⟩
abbrev main_call1_call0_c_1 : Ref sig .tc := ⟨.hbm, 73, rfl⟩
abbrev main_call1_call0_v9 : Ref sig .tc := ⟨.hbm, 74, rfl⟩
abbrev main_call1_call0_v10 : Ref sig .tc := ⟨.hbm, 75, rfl⟩
abbrev main_call1_call0_v11 : Ref sig .tc := ⟨.hbm, 76, rfl⟩
abbrev main_call1_call0_v12 : Ref sig .tc := ⟨.hbm, 77, rfl⟩
abbrev main_call1_call0_v13 : Ref sig .tc := ⟨.hbm, 78, rfl⟩
abbrev main_call1_call0_c_2 : Ref sig .tc := ⟨.hbm, 79, rfl⟩
abbrev main_call1_call0_v14 : Ref sig .tc := ⟨.hbm, 80, rfl⟩
abbrev main_call1_call0_v15 : Ref sig .tc := ⟨.hbm, 81, rfl⟩
abbrev main_call1_call0_c_3 : Ref sig .tc := ⟨.hbm, 82, rfl⟩
abbrev main_call1_call0_v16 : Ref sig .tc := ⟨.hbm, 83, rfl⟩
abbrev main_call1_call0_v17 : Ref sig .tc := ⟨.hbm, 84, rfl⟩
abbrev main_call1_call0_v18 : Ref sig .tc := ⟨.hbm, 85, rfl⟩
abbrev main_call1_call0_v19 : Ref sig .tc := ⟨.hbm, 86, rfl⟩
abbrev main_call1_call0_v20 : Ref sig .tc := ⟨.hbm, 87, rfl⟩
abbrev main_call1_call0_c_4 : Ref sig .tc := ⟨.hbm, 88, rfl⟩
abbrev main_call1_call0_v21 : Ref sig .tc := ⟨.hbm, 89, rfl⟩
abbrev main_call1_call0_v22 : Ref sig .tc := ⟨.hbm, 90, rfl⟩
abbrev main_call1_call0_c_5 : Ref sig .tc := ⟨.hbm, 91, rfl⟩
abbrev main_call1_call0_v23 : Ref sig .tc := ⟨.hbm, 92, rfl⟩
abbrev main_call1_call0_v24 : Ref sig .tc := ⟨.hbm, 93, rfl⟩
abbrev main_call1_call0_v25 : Ref sig .tc := ⟨.hbm, 94, rfl⟩
abbrev main_call1_call0_v26 : Ref sig .tc := ⟨.hbm, 95, rfl⟩
abbrev main_call1_call0_v27 : Ref sig .tc := ⟨.hbm, 96, rfl⟩
abbrev main_call1_call0_c_6 : Ref sig .tc := ⟨.hbm, 97, rfl⟩
abbrev main_call1_call0_v28 : Ref sig .tc := ⟨.hbm, 98, rfl⟩
abbrev main_call1_call0_v29 : Ref sig .tc := ⟨.hbm, 99, rfl⟩
abbrev main_call1_call0_c_7 : Ref sig .tc := ⟨.hbm, 100, rfl⟩
abbrev main_call1_call0_v30 : Ref sig .tc := ⟨.hbm, 101, rfl⟩
abbrev main_call1_call0_v31 : Ref sig .tc := ⟨.hbm, 102, rfl⟩
abbrev main_call1_call0_v32 : Ref sig .tc := ⟨.hbm, 103, rfl⟩
abbrev main_call1_call0_v33 : Ref sig .tc := ⟨.hbm, 104, rfl⟩
abbrev main_call1_call0_v34 : Ref sig .tc := ⟨.hbm, 105, rfl⟩
abbrev main_call1_call0_v35 : Ref sig .tc := ⟨.hbm, 106, rfl⟩
abbrev main_call1_call0_v36 : Ref sig .tc := ⟨.hbm, 107, rfl⟩
abbrev main_call1_call0_v37 : Ref sig .tc := ⟨.hbm, 108, rfl⟩
abbrev main_call1_call0_c_8 : Ref sig .tc := ⟨.hbm, 109, rfl⟩
abbrev main_call1_call0_v38 : Ref sig .tc := ⟨.hbm, 110, rfl⟩
abbrev main_call1_call0_v39 : Ref sig .tc := ⟨.hbm, 111, rfl⟩
abbrev main_call1_call0_v40 : Ref sig .tc := ⟨.hbm, 112, rfl⟩
abbrev main_call1_call0_c_9 : Ref sig .tc := ⟨.hbm, 113, rfl⟩
abbrev main_call1_call0_v41 : Ref sig .tc := ⟨.hbm, 114, rfl⟩
abbrev main_call1_call0_v42 : Ref sig .tc := ⟨.hbm, 115, rfl⟩
abbrev main_call1_call0_c_10 : Ref sig .tc := ⟨.hbm, 116, rfl⟩
abbrev main_call1_call0_v43 : Ref sig .tc := ⟨.hbm, 117, rfl⟩
abbrev main_call1_call0_v44 : Ref sig .tc := ⟨.hbm, 118, rfl⟩
abbrev main_call1_call0_v45 : Ref sig .tc := ⟨.hbm, 119, rfl⟩
abbrev main_call1_call0_v46 : Ref sig .tc := ⟨.hbm, 120, rfl⟩
abbrev main_call1_call0_v47 : Ref sig .tc := ⟨.hbm, 121, rfl⟩
abbrev main_call1_call0_c_11 : Ref sig .tc := ⟨.hbm, 122, rfl⟩
abbrev main_call1_call0_v48 : Ref sig .tc := ⟨.hbm, 123, rfl⟩
abbrev main_call1_call0_v49 : Ref sig .tc := ⟨.hbm, 124, rfl⟩
abbrev main_call1_call0_c_12 : Ref sig .tc := ⟨.hbm, 125, rfl⟩
abbrev main_call1_call0_v50 : Ref sig .tc := ⟨.hbm, 126, rfl⟩
abbrev main_call1_call0_v51 : Ref sig .tc := ⟨.hbm, 127, rfl⟩
abbrev main_call1_call0_v52 : Ref sig .tc := ⟨.hbm, 128, rfl⟩
abbrev main_call1_call0_v53 : Ref sig .tc := ⟨.hbm, 129, rfl⟩
abbrev main_call1_call0_v54 : Ref sig .tc := ⟨.hbm, 130, rfl⟩
abbrev main_call1_call0_c_13 : Ref sig .tc := ⟨.hbm, 131, rfl⟩
abbrev main_call1_call0_v55 : Ref sig .tc := ⟨.hbm, 132, rfl⟩
abbrev main_call1_call0_v56 : Ref sig .tc := ⟨.hbm, 133, rfl⟩
abbrev main_call1_call0_c_14 : Ref sig .tc := ⟨.hbm, 134, rfl⟩
abbrev main_call1_call0_v57 : Ref sig .tc := ⟨.hbm, 135, rfl⟩
abbrev main_call1_call0_v58 : Ref sig .tc := ⟨.hbm, 136, rfl⟩
abbrev main_call1_call0_v59 : Ref sig .tc := ⟨.hbm, 137, rfl⟩
abbrev main_call1_call0_v60 : Ref sig .tc := ⟨.hbm, 138, rfl⟩
abbrev main_call1_call0_v61 : Ref sig .tc := ⟨.hbm, 139, rfl⟩
abbrev main_call1_call0_c_15 : Ref sig .tc := ⟨.hbm, 140, rfl⟩
abbrev main_call1_call0_v62 : Ref sig .tc := ⟨.hbm, 141, rfl⟩
abbrev main_call1_call0_v63 : Ref sig .tc := ⟨.hbm, 142, rfl⟩
abbrev main_call1_call0_c_16 : Ref sig .tc := ⟨.hbm, 143, rfl⟩
abbrev main_call1_call0_v64 : Ref sig .tc := ⟨.hbm, 144, rfl⟩
abbrev main_call1_call0_v65 : Ref sig .tc := ⟨.hbm, 145, rfl⟩
abbrev main_call1_call0_v66 : Ref sig .tc := ⟨.hbm, 146, rfl⟩
abbrev main_call1_call0_v67 : Ref sig .tc := ⟨.hbm, 147, rfl⟩
abbrev main_call1_call0_v68 : Ref sig .tc := ⟨.hbm, 148, rfl⟩
abbrev main_call1_call0_v69 : Ref sig .tc := ⟨.hbm, 149, rfl⟩
abbrev main_call1_call0_v70 : Ref sig .tc := ⟨.hbm, 150, rfl⟩
abbrev main_call1_call0_v71 : Ref sig .tc := ⟨.hbm, 151, rfl⟩
abbrev main_call1_call0_c_17 : Ref sig .tc := ⟨.hbm, 152, rfl⟩
abbrev main_call1_call0_v72 : Ref sig .tc := ⟨.hbm, 153, rfl⟩
abbrev main_call1_call0_v73 : Ref sig .tc := ⟨.hbm, 154, rfl⟩
abbrev main_call1_call0_v74 : Ref sig .tc := ⟨.hbm, 155, rfl⟩
abbrev main_call1_call0_c_18 : Ref sig .tc := ⟨.hbm, 156, rfl⟩
abbrev main_call1_call0_v75 : Ref sig .tc := ⟨.hbm, 157, rfl⟩
abbrev main_call1_call0_v76 : Ref sig .tc := ⟨.hbm, 158, rfl⟩
abbrev main_call1_call0_c_19 : Ref sig .tc := ⟨.hbm, 159, rfl⟩
abbrev main_call1_call0_v77 : Ref sig .tc := ⟨.hbm, 160, rfl⟩
abbrev main_call1_call0_v78 : Ref sig .tc := ⟨.hbm, 161, rfl⟩
abbrev main_call1_call0_v79 : Ref sig .tc := ⟨.hbm, 162, rfl⟩
abbrev main_call1_call0_v80 : Ref sig .tc := ⟨.hbm, 163, rfl⟩
abbrev main_call1_call0_v81 : Ref sig .tc := ⟨.hbm, 164, rfl⟩
abbrev main_call1_call0_c_20 : Ref sig .tc := ⟨.hbm, 165, rfl⟩
abbrev main_call1_call0_v82 : Ref sig .tc := ⟨.hbm, 166, rfl⟩
abbrev main_call1_call0_v83 : Ref sig .tc := ⟨.hbm, 167, rfl⟩
abbrev main_call1_call0_c_21 : Ref sig .tc := ⟨.hbm, 168, rfl⟩
abbrev main_call1_call0_v84 : Ref sig .tc := ⟨.hbm, 169, rfl⟩
abbrev main_call1_call0_v85 : Ref sig .tc := ⟨.hbm, 170, rfl⟩
abbrev main_call1_call0_v86 : Ref sig .tc := ⟨.hbm, 171, rfl⟩
abbrev main_call1_call0_v87 : Ref sig .tc := ⟨.hbm, 172, rfl⟩
abbrev main_call1_call0_v88 : Ref sig .tc := ⟨.hbm, 173, rfl⟩
abbrev main_call1_call0_c_22 : Ref sig .tc := ⟨.hbm, 174, rfl⟩
abbrev main_call1_call0_v89 : Ref sig .tc := ⟨.hbm, 175, rfl⟩
abbrev main_call1_call0_v90 : Ref sig .tc := ⟨.hbm, 176, rfl⟩
abbrev main_call1_call0_c_23 : Ref sig .tc := ⟨.hbm, 177, rfl⟩
abbrev main_call1_call0_v91 : Ref sig .tc := ⟨.hbm, 178, rfl⟩
abbrev main_call1_call0_v92 : Ref sig .tc := ⟨.hbm, 179, rfl⟩
abbrev main_call1_call0_v93 : Ref sig .tc := ⟨.hbm, 180, rfl⟩
abbrev main_call1_call0_v94 : Ref sig .tc := ⟨.hbm, 181, rfl⟩
abbrev main_call1_call0_v95 : Ref sig .tc := ⟨.hbm, 182, rfl⟩
abbrev main_call1_call0_c_24 : Ref sig .tc := ⟨.hbm, 183, rfl⟩
abbrev main_call1_call0_v96 : Ref sig .tc := ⟨.hbm, 184, rfl⟩
abbrev main_call1_call0_v97 : Ref sig .tc := ⟨.hbm, 185, rfl⟩
abbrev main_call1_call0_c_25 : Ref sig .tc := ⟨.hbm, 186, rfl⟩
abbrev main_call1_call0_v98 : Ref sig .tc := ⟨.hbm, 187, rfl⟩
abbrev main_call1_call0_v99 : Ref sig .tc := ⟨.hbm, 188, rfl⟩
abbrev main_call1_call0_v100 : Ref sig .tc := ⟨.hbm, 189, rfl⟩
abbrev main_call1_call0_v101 : Ref sig .tc := ⟨.hbm, 190, rfl⟩
abbrev main_call1_call0_v102 : Ref sig .tc := ⟨.hbm, 191, rfl⟩
abbrev main_call1_call0_v103 : Ref sig .tc := ⟨.hbm, 192, rfl⟩
abbrev main_call1_call0_v104 : Ref sig .tc := ⟨.hbm, 193, rfl⟩
abbrev main_call1_call0_v105 : Ref sig .tc := ⟨.hbm, 194, rfl⟩
abbrev main_call1_call0_c_26 : Ref sig .tc := ⟨.hbm, 195, rfl⟩
abbrev main_call1_call0_v106 : Ref sig .tc := ⟨.hbm, 196, rfl⟩
abbrev main_call1_call0_v107 : Ref sig .tc := ⟨.hbm, 197, rfl⟩
abbrev main_call1_call0_v108 : Ref sig .tc := ⟨.hbm, 198, rfl⟩
abbrev main_call1_call0_c_27 : Ref sig .tc := ⟨.hbm, 199, rfl⟩
abbrev main_call1_call0_v109 : Ref sig .tc := ⟨.hbm, 200, rfl⟩
abbrev main_call1_call0_v110 : Ref sig .tc := ⟨.hbm, 201, rfl⟩
abbrev main_call1_call0_c_28 : Ref sig .tc := ⟨.hbm, 202, rfl⟩
abbrev main_call1_call0_v111 : Ref sig .tc := ⟨.hbm, 203, rfl⟩
abbrev main_call1_call0_v112 : Ref sig .tc := ⟨.hbm, 204, rfl⟩
abbrev main_call1_call0_v113 : Ref sig .tc := ⟨.hbm, 205, rfl⟩
abbrev main_call1_call0_v114 : Ref sig .tc := ⟨.hbm, 206, rfl⟩
abbrev main_call1_call0_v115 : Ref sig .tc := ⟨.hbm, 207, rfl⟩
abbrev main_call1_call0_c_29 : Ref sig .tc := ⟨.hbm, 208, rfl⟩
abbrev main_call1_call0_v116 : Ref sig .tc := ⟨.hbm, 209, rfl⟩
abbrev main_call1_call0_v117 : Ref sig .tc := ⟨.hbm, 210, rfl⟩
abbrev main_call1_call0_c_30 : Ref sig .tc := ⟨.hbm, 211, rfl⟩
abbrev main_call1_call0_v118 : Ref sig .tc := ⟨.hbm, 212, rfl⟩
abbrev main_call1_call0_v119 : Ref sig .tc := ⟨.hbm, 213, rfl⟩
abbrev main_call1_call0_v120 : Ref sig .tc := ⟨.hbm, 214, rfl⟩
abbrev main_call1_call0_v121 : Ref sig .tc := ⟨.hbm, 215, rfl⟩
abbrev main_call1_call0_v122 : Ref sig .tc := ⟨.hbm, 216, rfl⟩
abbrev main_call1_call0_c_31 : Ref sig .tc := ⟨.hbm, 217, rfl⟩
abbrev main_call1_call0_v123 : Ref sig .tc := ⟨.hbm, 218, rfl⟩
abbrev main_call1_call0_v124 : Ref sig .tc := ⟨.hbm, 219, rfl⟩
abbrev main_call1_call0_c_32 : Ref sig .tc := ⟨.hbm, 220, rfl⟩
abbrev main_call1_call0_v125 : Ref sig .tc := ⟨.hbm, 221, rfl⟩
abbrev main_call1_call0_v126 : Ref sig .tc := ⟨.hbm, 222, rfl⟩
abbrev main_call1_call0_v127 : Ref sig .tc := ⟨.hbm, 223, rfl⟩
abbrev main_call1_call0_v128 : Ref sig .tc := ⟨.hbm, 224, rfl⟩
abbrev main_call1_call0_v129 : Ref sig .tc := ⟨.hbm, 225, rfl⟩
abbrev main_call1_call0_c_33 : Ref sig .tc := ⟨.hbm, 226, rfl⟩
abbrev main_call1_call0_v130 : Ref sig .tc := ⟨.hbm, 227, rfl⟩
abbrev main_call1_call0_v131 : Ref sig .tc := ⟨.hbm, 228, rfl⟩
abbrev main_call1_call0_c_34 : Ref sig .tc := ⟨.hbm, 229, rfl⟩
abbrev main_call1_call0_v132 : Ref sig .tc := ⟨.hbm, 230, rfl⟩
abbrev main_call1_call0_v133 : Ref sig .tc := ⟨.hbm, 231, rfl⟩
abbrev main_call1_call0_v134 : Ref sig .tc := ⟨.hbm, 232, rfl⟩
abbrev main_call1_call0_v135 : Ref sig .tc := ⟨.hbm, 233, rfl⟩
abbrev main_call1_call0_v136 : Ref sig .tc := ⟨.hbm, 234, rfl⟩
abbrev main_call1_call0_v137 : Ref sig .tc := ⟨.hbm, 235, rfl⟩
abbrev main_call1_call0_v138 : Ref sig .tc := ⟨.hbm, 236, rfl⟩
abbrev main_call1_call0_v139 : Ref sig .tc := ⟨.hbm, 237, rfl⟩
abbrev main_call1_call0_c_35 : Ref sig .tc := ⟨.hbm, 238, rfl⟩
abbrev main_call1_call0_v140 : Ref sig .tc := ⟨.hbm, 239, rfl⟩
abbrev main_call1_call0_v141 : Ref sig .tc := ⟨.hbm, 240, rfl⟩
abbrev main_call1_call0_v142 : Ref sig .tc := ⟨.hbm, 241, rfl⟩
abbrev main_call1_call0_c_36 : Ref sig .tc := ⟨.hbm, 242, rfl⟩
abbrev main_call1_call0_v143 : Ref sig .tc := ⟨.hbm, 243, rfl⟩
abbrev main_call1_call0_v144 : Ref sig .tc := ⟨.hbm, 244, rfl⟩
abbrev main_call1_call0_c_37 : Ref sig .tc := ⟨.hbm, 245, rfl⟩
abbrev main_call1_call0_v145 : Ref sig .tc := ⟨.hbm, 246, rfl⟩
abbrev main_call1_call0_v146 : Ref sig .tc := ⟨.hbm, 247, rfl⟩
abbrev main_call1_call0_v147 : Ref sig .tc := ⟨.hbm, 248, rfl⟩
abbrev main_call1_call0_v148 : Ref sig .tc := ⟨.hbm, 249, rfl⟩
abbrev main_call1_call0_v149 : Ref sig .tc := ⟨.hbm, 250, rfl⟩
abbrev main_call1_call0_c_38 : Ref sig .tc := ⟨.hbm, 251, rfl⟩
abbrev main_call1_call0_v150 : Ref sig .tc := ⟨.hbm, 252, rfl⟩
abbrev main_call1_call0_v151 : Ref sig .tc := ⟨.hbm, 253, rfl⟩
abbrev main_call1_call0_c_39 : Ref sig .tc := ⟨.hbm, 254, rfl⟩
abbrev main_call1_call0_v152 : Ref sig .tc := ⟨.hbm, 255, rfl⟩
abbrev main_call1_call0_v153 : Ref sig .tc := ⟨.hbm, 256, rfl⟩
abbrev main_call1_call0_v154 : Ref sig .tc := ⟨.hbm, 257, rfl⟩
abbrev main_call1_call0_v155 : Ref sig .tc := ⟨.hbm, 258, rfl⟩
abbrev main_call1_call0_v156 : Ref sig .tc := ⟨.hbm, 259, rfl⟩
abbrev main_call1_call0_c_40 : Ref sig .tc := ⟨.hbm, 260, rfl⟩
abbrev main_call1_call0_v157 : Ref sig .tc := ⟨.hbm, 261, rfl⟩
abbrev main_call1_call0_v158 : Ref sig .tc := ⟨.hbm, 262, rfl⟩
abbrev main_call1_call0_c_41 : Ref sig .tc := ⟨.hbm, 263, rfl⟩
abbrev main_call1_call0_v159 : Ref sig .tc := ⟨.hbm, 264, rfl⟩
abbrev main_call1_call0_v160 : Ref sig .tc := ⟨.hbm, 265, rfl⟩
abbrev main_call1_call0_v161 : Ref sig .tc := ⟨.hbm, 266, rfl⟩
abbrev main_call1_call0_v162 : Ref sig .tc := ⟨.hbm, 267, rfl⟩
abbrev main_call1_call0_v163 : Ref sig .tc := ⟨.hbm, 268, rfl⟩
abbrev main_call1_call0_c_42 : Ref sig .tc := ⟨.hbm, 269, rfl⟩
abbrev main_call1_call0_v164 : Ref sig .tc := ⟨.hbm, 270, rfl⟩
abbrev main_call1_call0_v165 : Ref sig .tc := ⟨.hbm, 271, rfl⟩
abbrev main_call1_call0_c_43 : Ref sig .tc := ⟨.hbm, 272, rfl⟩
abbrev main_call1_call0_v166 : Ref sig .tc := ⟨.hbm, 273, rfl⟩
abbrev main_call1_call0_v167 : Ref sig .tc := ⟨.hbm, 274, rfl⟩
abbrev main_call1_call0_v168 : Ref sig .tc := ⟨.hbm, 275, rfl⟩
abbrev main_call1_call0_v169 : Ref sig .tc := ⟨.hbm, 276, rfl⟩
abbrev main_call1_call0_v170 : Ref sig .tc := ⟨.hbm, 277, rfl⟩
abbrev main_call1_v19_0 : Ref sig .tc := ⟨.hbm, 278, rfl⟩
abbrev main_call1_call0_v172 : Ref sig .tc := ⟨.hbm, 279, rfl⟩
abbrev main_call1_call0_v173 : Ref sig .tc := ⟨.hbm, 280, rfl⟩
abbrev main_call1_call0_c_44 : Ref sig .tc := ⟨.hbm, 281, rfl⟩
abbrev main_call1_call0_v174 : Ref sig .tc := ⟨.hbm, 282, rfl⟩
abbrev main_call1_v19_1 : Ref sig .tc := ⟨.hbm, 283, rfl⟩
abbrev main_call1_v20 : Ref sig .tc := ⟨.hbm, 284, rfl⟩
abbrev main_call1_c_2 : Ref sig .tc := ⟨.hbm, 285, rfl⟩
abbrev main_call1_v21 : Ref sig .tc := ⟨.hbm, 286, rfl⟩
abbrev main_call1_v22 : Ref sig .tc := ⟨.hbm, 287, rfl⟩
abbrev main_call1_c_3 : Ref sig .tc := ⟨.hbm, 288, rfl⟩
abbrev main_call1_v23 : Ref sig .tc := ⟨.hbm, 289, rfl⟩
abbrev main_call1_v24 : Ref sig .tc := ⟨.hbm, 290, rfl⟩
abbrev main_call1_v25 : Ref sig .tc := ⟨.hbm, 291, rfl⟩
abbrev main_call1_cst : Ref sig .tc := ⟨.hbm, 292, rfl⟩
abbrev main_call1_v26 : Ref sig .tc := ⟨.hbm, 293, rfl⟩
abbrev main_call1_v27 : Ref sig .tc := ⟨.hbm, 294, rfl⟩
abbrev main_call1_v28 : Ref sig .tc := ⟨.hbm, 295, rfl⟩
abbrev main_call1_v29 : Ref sig .tc := ⟨.hbm, 296, rfl⟩
abbrev main_call1_v30 : Ref sig .tc := ⟨.hbm, 297, rfl⟩
abbrev main_call1_v31 : Ref sig .tc := ⟨.hbm, 298, rfl⟩
abbrev main_call1_v32 : Ref sig .tc := ⟨.hbm, 299, rfl⟩
abbrev main_call1_v33 : Ref sig .tc := ⟨.hbm, 300, rfl⟩
abbrev main_v25 : Ref sig .tc := ⟨.hbm, 301, rfl⟩
abbrev main_cst_6 : Ref sig .tc := ⟨.hbm, 302, rfl⟩
abbrev main_v26 : Ref sig .tc := ⟨.hbm, 303, rfl⟩
abbrev main_v27 : Ref sig .tc := ⟨.hbm, 304, rfl⟩
abbrev main_v28 : Ref sig .tc := ⟨.hbm, 305, rfl⟩
abbrev main_v29 : Ref sig .tc := ⟨.hbm, 306, rfl⟩
abbrev main_cst_7 : Ref sig .tc := ⟨.hbm, 307, rfl⟩
abbrev main_v30 : Ref sig .tc := ⟨.hbm, 308, rfl⟩
abbrev main_v31 : Ref sig .tc := ⟨.hbm, 309, rfl⟩
abbrev main_v32 : Ref sig .tc := ⟨.hbm, 310, rfl⟩
abbrev main_v33 : Ref sig .tc := ⟨.hbm, 311, rfl⟩
abbrev main_v34 : Ref sig .tc := ⟨.hbm, 312, rfl⟩
abbrev main_v35 : Ref sig .tc := ⟨.hbm, 313, rfl⟩
abbrev main_v36 : Ref sig .tc := ⟨.hbm, 314, rfl⟩
abbrev main_v37 : Ref sig .tc := ⟨.hbm, 315, rfl⟩
abbrev main_v38 : Ref sig .tc := ⟨.hbm, 316, rfl⟩
abbrev main_cst_8 : Ref sig .tc := ⟨.hbm, 317, rfl⟩
abbrev main_v39 : Ref sig .tc := ⟨.hbm, 318, rfl⟩
abbrev main_cst_9 : Ref sig .tc := ⟨.hbm, 319, rfl⟩
abbrev main_v40 : Ref sig .tc := ⟨.hbm, 320, rfl⟩
abbrev main_v41 : Ref sig .tc := ⟨.hbm, 321, rfl⟩
abbrev main_v42 : Ref sig .tc := ⟨.hbm, 322, rfl⟩
abbrev main_v43 : Ref sig .tc := ⟨.hbm, 323, rfl⟩
abbrev main_v44 : Ref sig .tc := ⟨.hbm, 324, rfl⟩
abbrev main_v45 : Ref sig .tc := ⟨.hbm, 325, rfl⟩
abbrev main_cst_10 : Ref sig .tc := ⟨.hbm, 326, rfl⟩
abbrev main_v46 : Ref sig .tc := ⟨.hbm, 327, rfl⟩
abbrev main_v47 : Ref sig .tc := ⟨.hbm, 328, rfl⟩
abbrev main_v48 : Ref sig .tc := ⟨.hbm, 329, rfl⟩
abbrev main_v49 : Ref sig .tc := ⟨.hbm, 330, rfl⟩
abbrev main_v50 : Ref sig .tc := ⟨.hbm, 331, rfl⟩

abbrev nD : Nat := 1
abbrev τ : Topo := Topo.v7x

variable {F : FTy → Type} [FloatOps F]
-- ==== Proof.KernBlock.lean ====
/-
  What one grid point of the kernel leaves in its buffers, as the stored values of the blocks it reads. The first point also
  prepares the two scratch arrays, which every later point only reads.
-/
module

public import proofs.«01_k».proof.Proof.Gen.KernelIdeal.Frame
public import Idealize.ShloMosaic.Lib.Pipeline.Value
public import Idealize.ShloMosaic.Lib.Tactic
public import Idealize.ShloMosaic.Lib.Pointwise

@[expose] public section

noncomputable section

namespace Cert.Proof.Kern

open Idealize.SL.Sem Idealize.ShloMosaic Idealize.ShloMosaic.TcCoe Cert.KernelIdeal Cert.KernelIdeal.Gen

variable {F : FTy → Type} [FloatOps F] [Named F]

/-- Every buffer of the body is read and written from its first element on. -/
theorem origin : (![0, 0] : Fin 2 → ℕ) = fun _ => 0 := funext fun a => by fin_cases a <;> rfl

/-- The temperature's reciprocal, which the body reads as a single number. -/
abbrev only (x : Vec F S1x1 .f32) : Elt F .f32 := x (ix2 0 0)

/-- A block of one element holds one number, whichever place it is read at. -/
theorem only_eq (x : Vec F S1x1 .f32) (y : (Rect.unit (s := S1x1) ![0, 0] S1x1.size inb_S1x1_S1x1_0_0).shape.Idx) :
    View.ld x (Rect.unit (s := S1x1) ![0, 0] S1x1.size inb_S1x1_S1x1_0_0) y = only x := by
  rw [View.ld_unit_zero (S := S1x1) origin]
  exact congrArg x (funext fun a => by fin_cases a <;> exact Subsingleton.elim (α := Fin 1) _ _)

variable (c : Dev nD) (i : grid0.Coords) (a1 : Memref sig .tc .vmem S512x64 .f32) (h1 : a1.IsWhole)
  (a2 : Memref sig .tc .vmem S64x8192 .f32) (h2 : a2.IsWhole) (a3 : Memref sig .tc .vmem S8192x64 .f32) (h3 : a3.IsWhole)
  (a4 : Memref sig .tc .vmem S512x8192 .f32) (h4 : a4.IsWhole) (a5 : Memref sig .tc .smem S1x1 .f32) (h5 : a5.IsWhole)
  (a6 : Memref sig .tc .vmem S512x64 .f32) (h6 : a6.IsWhole) (a7 : Memref sig .tc .vmem S512x1 .i32) (h7 : a7.IsWhole)
  (a8 : Memref sig .tc .vmem S1x8192 .f32) (h8 : a8.IsWhole) (a9 : Memref sig .tc .vmem S8192x72 .bf16) (h9 : a9.IsWhole)
  (x0 : Vec F S512x64 .f32) (x1 : Vec F S64x8192 .f32) (x2 : Vec F S8192x64 .f32) (x3 : Vec F S512x8192 .f32) (x4 : Vec F S1x1 .f32)

/-- The first point leaves the codebook's squared lengths in the first scratch array. -/
theorem scratch0_A (hc : cond0_0 i) :
    sout0_A_0 c i a1 h1 a2 h2 a3 h3 a4 h4 a5 h5 a6 h6 a7 h7 a8 h8 a9 h9 hc x0 x1 x2 x3 x4 = k0_pay1 x1 := by
  unfold sout0_A_0
  rw [View.read_writes_eq_canon _ _ _ (scover0_A_0 c i a1 h1 a2 h2 a3 h3 a4 h4 a5 h5 a6 h6 a7 h7 a8 h8 a9 h9 hc x0 x1 x2 x3 x4)]
  unfold kernelRun0_A
  dsimp only
  sl_unfold_words
  rw [View.canon_unit_zero (S := S1x8192) origin]
  simp only [View.readAt_eq_ld, h2.read_unread, View.ld_unit_zero (S := S64x8192) origin]

/-- It leaves the codebook with a column of ones in the second scratch array. -/
theorem scratch1_A (hc : cond0_0 i) :
    sout0_A_1 c i a1 h1 a2 h2 a3 h3 a4 h4 a5 h5 a6 h6 a7 h7 a8 h8 a9 h9 hc x0 x1 x2 x3 x4 = k0_pay2 x2 := by
  unfold sout0_A_1
  rw [View.read_writes_eq_canon _ _ _ (scover0_A_1 c i a1 h1 a2 h2 a3 h3 a4 h4 a5 h5 a6 h6 a7 h7 a8 h8 a9 h9 hc x0 x1 x2 x3 x4)]
  unfold kernelRun0_A
  dsimp only
  sl_unfold_words
  rw [View.canon_unit_zero (S := S8192x72) origin]
  simp only [View.readAt_eq_ld, h3.read_unread, View.ld_unit_zero (S := S8192x64) origin]

/-- The first point's soft codes: the stored value, at the scratch arrays it has just prepared. -/
theorem soft_A (hc : cond0_0 i) :
    out0_A_5 c i a1 h1 a2 h2 a3 h3 a4 h4 a5 h5 a6 h6 a7 h7 a8 h8 a9 h9 hc x0 x1 x2 x3 x4
      = k0_pay5 x0 x1 (k0_pay1 x1) (only x4) x3 (k0_pay2 x2) := by
  unfold out0_A_5
  rw [View.read_writes_eq_canon _ _ _ (cover0_A_5 c i a1 h1 a2 h2 a3 h3 a4 h4 a5 h5 a6 h6 a7 h7 a8 h8 a9 h9 hc x0 x1 x2 x3 x4)]
  unfold kernelRun0_A
  dsimp only
  sl_unfold_words
  rw [View.canon_unit_zero (S := S512x64) origin]
  simp only [View.readAt_eq_ld, View.readCov_unit_zero (S := S1x8192) _ origin, View.readCov_unit_zero (S := S8192x72) _ origin,
    h1.read_unread, h2.read_unread, h3.read_unread, h4.read_unread, h5.read_unread,
    View.ld_unit_zero (S := S512x64) origin, View.ld_unit_zero (S := S64x8192) origin, View.ld_unit_zero (S := S8192x64) origin,
    View.ld_unit_zero (S := S512x8192) origin]
  exact congrArg (fun z => k0_pay5 x0 x1 (k0_pay1 x1) z x3 (k0_pay2 x2)) (only_eq x4 _)

/-- The first point's nearest codes. -/
theorem hard_A (hc : cond0_0 i) :
    out0_A_6 c i a1 h1 a2 h2 a3 h3 a4 h4 a5 h5 a6 h6 a7 h7 a8 h8 a9 h9 hc x0 x1 x2 x3 x4 = k0_pay4 x0 x1 (k0_pay1 x1) := by
  unfold out0_A_6
  rw [View.read_writes_eq_canon _ _ _ (cover0_A_6 c i a1 h1 a2 h2 a3 h3 a4 h4 a5 h5 a6 h6 a7 h7 a8 h8 a9 h9 hc x0 x1 x2 x3 x4)]
  unfold kernelRun0_A
  dsimp only
  sl_unfold_words
  rw [View.canon_unit_zero (S := S512x1) origin]
  simp only [View.readAt_eq_ld, View.readCov_unit_zero (S := S1x8192) _ origin, h1.read_unread, h2.read_unread,
    View.ld_unit_zero (S := S512x64) origin, View.ld_unit_zero (S := S64x8192) origin]

variable (s0 : Vec F S1x8192 .f32) (s1 : Vec F S8192x72 .bf16)

/-- A later point's soft codes, at the scratch arrays it finds. -/
theorem soft_B (hc : ¬cond0_0 i) :
    out0_B_5 c i a1 h1 a2 h2 a3 h3 a4 h4 a5 h5 a6 h6 a7 h7 a8 h8 a9 h9 hc x0 x1 x2 x3 x4 s0 s1
      = k0_pay5 x0 x1 s0 (only x4) x3 s1 := by
  unfold out0_B_5
  rw [View.read_writes_eq_canon _ _ _ (cover0_B_5 c i a1 h1 a2 h2 a3 h3 a4 h4 a5 h5 a6 h6 a7 h7 a8 h8 a9 h9 hc x0 x1 x2 x3 x4 s0 s1)]
  unfold kernelRun0_B
  dsimp only
  sl_unfold_words
  rw [View.canon_unit_zero (S := S512x64) origin]
  simp only [View.readAt_eq_ld, h1.read_unread, h2.read_unread, h4.read_unread, h5.read_unread, h8.read_unread, h9.read_unread,
    View.ld_unit_zero (S := S512x64) origin, View.ld_unit_zero (S := S64x8192) origin, View.ld_unit_zero (S := S1x8192) origin,
    View.ld_unit_zero (S := S512x8192) origin, View.ld_unit_zero (S := S8192x72) origin]
  exact congrArg (fun z => k0_pay5 x0 x1 s0 z x3 s1) (only_eq x4 _)

/-- A later point's nearest codes. -/
theorem hard_B (hc : ¬cond0_0 i) :
    out0_B_6 c i a1 h1 a2 h2 a3 h3 a4 h4 a5 h5 a6 h6 a7 h7 a8 h8 a9 h9 hc x0 x1 x2 x3 x4 s0 s1 = k0_pay4 x0 x1 s0 := by
  unfold out0_B_6
  rw [View.read_writes_eq_canon _ _ _ (cover0_B_6 c i a1 h1 a2 h2 a3 h3 a4 h4 a5 h5 a6 h6 a7 h7 a8 h8 a9 h9 hc x0 x1 x2 x3 x4 s0 s1)]
  unfold kernelRun0_B
  dsimp only
  sl_unfold_words
  rw [View.canon_unit_zero (S := S512x1) origin]
  simp only [View.readAt_eq_ld, h1.read_unread, h2.read_unread, h8.read_unread,
    View.ld_unit_zero (S := S512x64) origin, View.ld_unit_zero (S := S64x8192) origin, View.ld_unit_zero (S := S1x8192) origin]

end Cert.Proof.Kern
-- ==== Proof.KernArray.lean ====
/-
  The kernel's two results as arrays: row block by row block, each the stored value of the arrays the launch finds.
-/
module

public import proofs.«01_k».proof.Proof.KernBlock
public import proofs.«01_k».proof.Proof.Gen.KernelIdeal.Value
public import Idealize.ShloMosaic.Lib.Pipeline.ValueKit

@[expose] public section

noncomputable section

namespace Cert.Proof.Kern

open Idealize.SL.Sem Idealize.ShloMosaic Idealize.ShloMosaic.TcCoe Cert.KernelIdeal Cert.KernelIdeal.Gen Cert.KernelIdeal.Value

variable {F : FTy → Type} [FloatOps F] [Named F]
variable (m : (ℓ : Loc nD τ sig) → Buf (Elt F) ℓ) (c : Dev nD)

/-- Which block of its array each window shows at a grid point: the rows advance with the point, the rest stay. -/
theorem places : ∀ t : Fin cfg0.N, win0_0.index t = ![t.val, 0] ∧ win0_1.index t = ![0, 0] ∧ win0_2.index t = ![0, 0]
    ∧ win0_3.index t = ![t.val, 0] ∧ win0_4.index t = ![0, 0] := by decide +kernel

/-- The transposed codebook is shown whole. -/
theorem block1 (t : Fin cfg0.N) : iblk m c 1 t = V m c main_call0_v3 := by
  funext y
  blk_ext [iblk, (places t).2.1]

/-- The codebook is shown whole. -/
theorem block2 (t : Fin cfg0.N) : iblk m c 2 t = V m c main_arg1 := by
  funext y
  blk_ext [iblk, (places t).2.2.1]

/-- So is the temperature's reciprocal. -/
theorem block4 (t : Fin cfg0.N) : iblk m c 4 t = V m c main_call0_v2 := by
  funext y
  blk_ext [iblk, (places t).2.2.2.2]

/-- A row of the inputs' block is that row of the inputs, 512 rows per point. -/
theorem block0 (t : Fin cfg0.N) (r : Fin 512) (k : Fin 64) (n : Fin 16384) (hn : n.val = t.val * 512 + r.val) :
    iblk m c 0 t (ix2 r k) = V m c main_arg0 (ix2 n k) := by
  blk_ext [iblk, (places t).1]

/-- A row of the noise's block is that row of the noise. -/
theorem block3 (t : Fin cfg0.N) (r : Fin 512) (v : Fin 8192) (n : Fin 16384) (hn : n.val = t.val * 512 + r.val) :
    iblk m c 3 t (ix2 r v) = V m c main_call0_v201 (ix2 n v) := by
  blk_ext [iblk, (places t).2.2.2.1]

/-- What a grid point leaves in the two scratch arrays and the two result blocks. -/
def leaves (t : Fin cfg0.N) : Vec F S512x64 .f32 × Vec F S512x1 .i32 × Vec F S1x8192 .f32 × Vec F S8192x72 .bf16 :=
  (k0_pay5 (iblk m c 0 t) (V m c main_call0_v3) (k0_pay1 (V m c main_call0_v3)) (only (V m c main_call0_v2)) (iblk m c 3 t)
      (k0_pay2 (V m c main_arg1)),
    k0_pay4 (iblk m c 0 t) (V m c main_call0_v3) (k0_pay1 (V m c main_call0_v3)),
    k0_pay1 (V m c main_call0_v3), k0_pay2 (V m c main_arg1))

/-- Every point leaves these: the first prepares the scratch arrays, and the later ones keep them. -/
theorem outs_eq : ∀ (n : ℕ) (hn : n < cfg0.N), outsAt0 m c n hn = leaves m c ⟨n, hn⟩
  | 0, hn => by
      rw [outsAt0_A m c ⟨0, hn⟩ rfl, soft_A, hard_A, scratch0_A, scratch1_A, block1, block2, block4]
      rfl
  | n + 1, hn => by
      have h0 : ¬(n + 1) % 32 = 0 := by
        have := lt_of_lt_of_eq hn (show cfg0.N = 32 from N_0)
        omega
      have e := outs_eq n (Nat.lt_of_succ_lt hn)
      rw [outsAt0_B m c ⟨n + 1, hn⟩ h0, soft_B, hard_B, block1, block4]
      show (_, _, (outsAt0 m c n _).2.2.1, (outsAt0 m c n _).2.2.2) = _
      simp only [Nat.add_sub_cancel, e]
      rfl

/-- The grid point that writes a row, and the row's place in that point's block. -/
def point (n : Fin 16384) : Fin cfg0.N := ⟨n.val / 512, by
  have := n.isLt
  rw [show cfg0.N = 32 from N_0]
  omega⟩

/-- A row's place in its block. -/
def within (n : Fin 16384) : Fin 512 := ⟨n.val % 512, Nat.mod_lt _ (by decide)⟩

/-- A row is found at its place in the block of its point. -/
theorem row_eq (n : Fin 16384) : n.val = (point n).val * 512 + (within n).val := by
  show n.val = n.val / 512 * 512 + n.val % 512
  omega

/-- The first result at an element: what the row's point leaves there. -/
theorem soft_array (n : Fin 16384) (k : Fin 64) : G5 m c (ix2 n k) = (leaves m c (point n)).1 (ix2 (within n) k) := by
  have hp : pt5Of (ix2 n k) = (point n).val := by
    show 1 * (n.val / 512 - 0) + 1 * (k.val / 64 - 0) = n.val / 512
    have := k.isLt
    omega
  have hl : loc5Of (ix2 n k) = ix2 (within n) k := by
    funext a
    fin_cases a
    · rfl
    · exact Fin.ext (Nat.mod_eq_of_lt k.isLt)
  unfold G5
  rw [dif_pos (hp ▸ (point n).isLt), ← outsAt0_sweep m c _ (hp ▸ (point n).isLt), hl]
  simp only [hp]
  rw [outs_eq]

/-- The second result at an element. -/
theorem hard_array (n : Fin 16384) : G6 m c (ix2 n 0) = (leaves m c (point n)).2.1 (ix2 (within n) 0) := by
  have hp : pt6Of (ix2 n 0) = (point n).val := by
    show 1 * (n.val / 512 - 0) + 1 * (0 / 1 - 0) = n.val / 512
    omega
  have hl : loc6Of (ix2 n 0) = ix2 (within n) 0 := by
    funext a
    fin_cases a <;> rfl
  unfold G6
  rw [dif_pos (hp ▸ (point n).isLt), ← outsAt0_sweep m c _ (hp ▸ (point n).isLt), hl]
  simp only [hp]
  rw [outs_eq]

end Cert.Proof.Kern
-- ==== Proof.HostLine.lean ====
/-
  Straight lines of host operations in which every buffer is written once, after all that it is computed from.

  The buffers of a printed host function are numbered in the order in which they are written.  So the contents after the whole
  line satisfy EVERY operation's equation at once (`Line.fixes`): the result's buffer holds the operation's function of what the
  operands' buffers hold at the end.  A long line is then read equation by equation, in any order, with no contents in between.
-/
module

public import Idealize.ShloMosaic.Lib.StableHlo.RunHlo

@[expose] public section

namespace Cert.Proof

open Idealize.SL.Sem Idealize.ShloMosaic Idealize.ShloMosaic.StableHlo

variable {nD : Nat} {τ : Topo} {sig : RefSig} {Val : EltTy → Type} {Λ : Labels}

/-! ## Reading the list of operations off a program -/

/-- A program that ends with an operation. -/
theorem isSeq_last {op : HloOp τ sig Val} :
    IsSeq (nD := nD) (Λ := Λ) ((hlo rfl op fun _ => .ret (⟨⟩ : PUnit)) : Prog (TpuEff nD τ sig Val Λ .tc) PUnit) [op] := by
  unfold IsSeq seq seq
  exact (bind_pure_unit).symm

/-- A call of a straight line followed by a straight line. -/
theorem isSeq_call {p k : Prog (TpuEff nD τ sig Val Λ .tc) PUnit} {l₁ l₂ : List (HloOp τ sig Val)}
    (hp : IsSeq p l₁) (hk : IsSeq k l₂) : IsSeq (p >>= fun _ => k) (l₁ ++ l₂) := by
  unfold IsSeq at *
  rw [hp, hk, seq_append]

/-! ## Lines in order -/

/-- A buffer's number. -/
def key (r : Ref sig .tc) : ℕ := r.idx.val

/-- Buffers with different numbers are different. -/
theorem ne_of_key {x y : Ref sig .tc} (h : key x < key y) : Proc.devRef (τ := τ) .tc x ≠ Proc.devRef .tc y :=
  devRef_ne_of_ne fun e => absurd (congrArg key e) (Nat.ne_of_lt h)

/-- One operation of a line: it writes the buffer `y` alone, from buffers with smaller numbers. -/
structure Step (y : Ref sig .tc) (op : HloOp τ sig Val) : Prop where
  writes : op.writes = {Proc.devRef .tc y}
  sub : op.bufs ⊆ tcRefs τ sig
  fresh : op.fresh = ∅
  reads : ∀ F G : Valuation τ sig Val, (∀ r : Ref sig .tc, key r < key y → F (Proc.devRef .tc r) = G (Proc.devRef .tc r)) →
    op.result F (Proc.devRef .tc y) = op.result G (Proc.devRef .tc y)

/-- A line whose operations write buffers with growing numbers, from `n` on. -/
inductive Line : ℕ → List (HloOp τ sig Val) → Prop
  | nil (n : ℕ) : Line n []
  | cons {n : ℕ} {y : Ref sig .tc} {op : HloOp τ sig Val} {ops : List (HloOp τ sig Val)} :
      Step y op → n ≤ key y → Line (key y + 1) ops → Line n (op :: ops)

section Steps
variable {a b c d x y : Ref sig .tc}

/-- A constant is a step of a line. -/
theorem step_nullary {v : y.ty.Contents Val} {hy} : Step y (nullary (τ := τ) y v hy) where
  writes := rfl
  sub := nullary_bufs_sub ..
  fresh := rfl
  reads F G _ := by rw [nullary_result', nullary_result']

/-- An operation of one operand with a smaller number is a step of a line. -/
theorem step_unary {f : x.ty.Contents Val → y.ty.Contents Val} {hx hy} (h : key x < key y) :
    Step y (unary (τ := τ) x y f hx hy) where
  writes := rfl
  sub := unary_bufs_sub ..
  fresh := rfl
  reads F G e := by rw [unary_result', unary_result', e x h]

/-- An operation of two operands with smaller numbers is a step of a line. -/
theorem step_binary {f : a.ty.Contents Val → b.ty.Contents Val → y.ty.Contents Val} {ha hb hy} (h : key a < key y)
    (h' : key b < key y) : Step y (binary (τ := τ) a b y f ha hb hy) where
  writes := rfl
  sub := binary_bufs_sub ..
  fresh := rfl
  reads F G e := by rw [binary_result', binary_result', e a h, e b h']

/-- An operation of four operands with smaller numbers is a step of a line. -/
theorem step_quaternary
    {f : a.ty.Contents Val → b.ty.Contents Val → c.ty.Contents Val → d.ty.Contents Val → y.ty.Contents Val} {ha hb hc hd hy}
    (h : key a < key y) (h' : key b < key y) (h'' : key c < key y) (h''' : key d < key y) :
    Step y (quaternary (τ := τ) a b c d y f ha hb hc hd hy) where
  writes := rfl
  sub := quaternary_bufs_sub ..
  fresh := rfl
  reads F G e := by rw [quaternary_result', quaternary_result', e a h, e b h', e c h'', e d h''']

/-- A reshape of an operand with a smaller number is a step of a line. -/
theorem step_reshape {he hn hx hy} (h : key x < key y) : Step y (reshape (τ := τ) (Val := Val) x y he hn hx hy) where
  writes := rfl
  sub := reshape_bufs_sub ..
  fresh := rfl
  reads F G e := by rw [reshape_result', reshape_result', e x h]

end Steps

/-- A buffer numbered below the line's first keeps its contents. -/
theorem Line.keeps {n : ℕ} {ops : List (HloOp τ sig Val)} (h : Line n ops) {r : Ref sig .tc} (hr : key r < n)
    (V : Valuation τ sig Val) : after ops V (Proc.devRef .tc r) = V (Proc.devRef .tc r) := by
  induction h generalizing V with
  | nil => rfl
  | cons s hn _ ih =>
    rw [after_cons, ih (by omega), HloOp.result_of_not_mem]
    rw [s.writes, Finset.mem_singleton]
    exact ne_of_key (by omega)

/-- After the line every operation finds its result already in place. -/
theorem Line.fixes {n : ℕ} {ops : List (HloOp τ sig Val)} (h : Line n ops) (V : Valuation τ sig Val) :
    ∀ op ∈ ops, op.result (after ops V) = after ops V := by
  induction h generalizing V with
  | nil => intro op h; cases h
  | @cons n y op ops s hn hl ih =>
    intro o ho
    rcases List.mem_cons.mp ho with rfl | ho
    · have hl' : Line n (o :: ops) := .cons s hn hl
      funext b
      by_cases hb : b ∈ o.writes
      · rw [s.writes, Finset.mem_singleton] at hb
        subst hb
        rw [after_cons, hl.keeps (Nat.lt_succ_self _)]
        refine s.reads _ _ fun r hr => ?_
        rw [hl.keeps (by omega), HloOp.result_of_not_mem]
        rw [s.writes, Finset.mem_singleton]
        exact ne_of_key hr
      · rw [HloOp.result_of_not_mem _ _ hb]
    · exact ih _ o ho

/-- The operations of a line use the program's own buffers only. -/
theorem Line.sub {n : ℕ} {ops : List (HloOp τ sig Val)} (h : Line n ops) : ops.Forall fun op => op.bufs ⊆ tcRefs τ sig := by
  induction h with
  | nil => trivial
  | cons s _ _ ih => exact List.forall_cons _ _ _ |>.mpr ⟨s.sub, ih⟩

/-- The operations of a line make no new buffers. -/
theorem Line.fresh {n : ℕ} {ops : List (HloOp τ sig Val)} (h : Line n ops) : ∀ op ∈ ops, op.fresh = ∅ := by
  induction h with
  | nil => intro op h; cases h
  | cons s _ _ ih =>
    intro o ho
    rcases List.mem_cons.mp ho with rfl | ho
    · exact s.fresh
    · exact ih o ho

/-! ## What the equations say -/

/-- Every operation of the list finds its result in place in `W`. -/
def Sat (W : Valuation τ sig Val) (ops : List (HloOp τ sig Val)) : Prop := ∀ op ∈ ops, op.result W = W

/-- The empty list asks nothing. -/
theorem sat_nil (W : Valuation τ sig Val) : Sat W [] ↔ True := ⟨fun _ => trivial, fun _ _ h => nomatch h⟩

/-- The equations of a list are those of its head and those of its tail. -/
theorem sat_cons {W : Valuation τ sig Val} {op : HloOp τ sig Val} {ops : List (HloOp τ sig Val)} :
    Sat W (op :: ops) ↔ op.result W = W ∧ Sat W ops := List.forall_mem_cons

/-- The equations of two lists joined are those of both. -/
theorem sat_append {W : Valuation τ sig Val} {l₁ l₂ : List (HloOp τ sig Val)} :
    Sat W (l₁ ++ l₂) ↔ Sat W l₁ ∧ Sat W l₂ := List.forall_mem_append

/-- What a buffer holds. -/
def hold (W : Valuation τ sig Val) (r : Ref sig .tc) : r.ty.Contents Val := W (Proc.devRef .tc r)

/-- What a typed buffer holds, at its type. -/
def get {T : BufTy} (W : Valuation τ sig Val) (r : TRef sig T) : T.Contents Val := r.ofBuf (W (Proc.devRef .tc r.ref))

/-- At the buffer's own type, the typed reading is the plain one. -/
theorem get_of {W : Valuation τ sig Val} {r : Ref sig .tc} {h₁ h₂ h₃} :
    get W (⟨r, h₁, h₂, h₃⟩ : TRef sig r.ty) = hold W r := rfl

variable {W : Valuation τ sig Val} {T Tx Ta Tb Tc Td Ty : BufTy}

private theorem result_eq_iff {op : HloOp τ sig Val} {y : Ref sig .tc} (hw : op.writes = {Proc.devRef .tc y}) :
    op.result W = W ↔ W (Proc.devRef .tc y) = op.result W (Proc.devRef .tc y) := by
  refine ⟨fun h => (congrFun h _).symm, fun h => funext fun b => ?_⟩
  by_cases hb : b ∈ op.writes
  · rw [hw, Finset.mem_singleton] at hb
    subst hb; exact h.symm
  · exact HloOp.result_of_not_mem _ _ hb

section Plain
variable {a b c d x y : Ref sig .tc}

/-- A constant is in place when its buffer holds it. -/
theorem sat_nullary' {v : y.ty.Contents Val} {hy} : (nullary (τ := τ) y v hy).result W = W ↔ hold W y = v := by
  rw [result_eq_iff (y := y) rfl, nullary_result']; rfl

/-- An operation of one operand is in place when its buffer holds the function of what the operand holds. -/
theorem sat_unary' {f : x.ty.Contents Val → y.ty.Contents Val} {hx hy} :
    (unary (τ := τ) x y f hx hy).result W = W ↔ hold W y = f (hold W x) := by
  rw [result_eq_iff (y := y) rfl, unary_result']; rfl

/-- An operation of two operands is in place when its buffer holds the function of what the operands hold. -/
theorem sat_binary' {f : a.ty.Contents Val → b.ty.Contents Val → y.ty.Contents Val} {ha hb hy} :
    (binary (τ := τ) a b y f ha hb hy).result W = W ↔ hold W y = f (hold W a) (hold W b) := by
  rw [result_eq_iff (y := y) rfl, binary_result']; rfl

/-- A reshape is in place when its buffer holds the operand's contents at the new shape. -/
theorem sat_reshape' {he hn hx hy} : (reshape (τ := τ) (Val := Val) x y he hn hx hy).result W = W ↔
    hold W y = fun i => he ▸ shapeCast y.ty.shape (hold W x) hn i := by
  rw [result_eq_iff (y := y) rfl, reshape_result']; rfl

end Plain

private theorem cast_iff {U V : Type} (h : U = V) (h' : V = U) (u : U) (v : V) : u = cast h' v ↔ cast h u = v := by
  cases h; rfl

/-- The same for a constant in a typed buffer. -/
theorem sat_nullary {y : TRef sig Ty} {v : Ty.Contents Val} : (TRef.nullary (τ := τ) y v).result W = W ↔ get W y = v :=
  sat_nullary'.trans (cast_iff _ _ _ _)

/-- The same for one operand in typed buffers. -/
theorem sat_unary {x : TRef sig Tx} {y : TRef sig Ty} {f : Tx.Contents Val → Ty.Contents Val} :
    (TRef.unary (τ := τ) x y f).result W = W ↔ get W y = f (get W x) :=
  sat_unary'.trans (cast_iff _ _ _ _)

/-- The same for two operands in typed buffers. -/
theorem sat_binary {a : TRef sig Ta} {b : TRef sig Tb} {y : TRef sig Ty} {f : Ta.Contents Val → Tb.Contents Val → Ty.Contents Val} :
    (TRef.binary (τ := τ) a b y f).result W = W ↔ get W y = f (get W a) (get W b) :=
  sat_binary'.trans (cast_iff _ _ _ _)

/-- The same for four operands in typed buffers. -/
theorem sat_quaternary {a : TRef sig Ta} {b : TRef sig Tb} {c : TRef sig Tc} {d : TRef sig Td} {y : TRef sig Ty}
    {f : Ta.Contents Val → Tb.Contents Val → Tc.Contents Val → Td.Contents Val → Ty.Contents Val} :
    (TRef.quaternary (τ := τ) a b c d y f).result W = W ↔ get W y = f (get W a) (get W b) (get W c) (get W d) := by
  rw [result_eq_iff (y := y.ref) rfl, quaternary_result']
  exact cast_iff _ _ _ _

/-- The same for a reshape of typed buffers. -/
theorem sat_reshape {x : TRef sig Tx} {y : TRef sig Ty} {he : Tx.elt = Ty.elt} {hn : Tx.shape.ShapeCasts Ty.shape} :
    (TRef.reshape (τ := τ) (Val := Val) x y he hn).result W = W ↔
      get W y = fun i => he ▸ shapeCast Ty.shape (get W x) hn i := by
  obtain ⟨x, rfl, _, _⟩ := x
  obtain ⟨y, rfl, _, _⟩ := y
  exact sat_reshape'

end Cert.Proof
-- ==== Proof.KernLine.lean ====
/-
  The kernel's host operations before its launch: the order of their buffers, and the contents they leave.
-/
module

public import proofs.«01_k».proof.Proof.HostLine
public import proofs.«01_k».proof.Proof.Gen.KernelIdeal.Frame

@[expose] public section

noncomputable section

namespace Cert.Proof.Kern

open Idealize.SL.Sem Idealize.ShloMosaic Idealize.ShloMosaic.StableHlo Cert.KernelIdeal Cert.KernelIdeal.Gen

variable {F : FTy → Type} [FloatOps F] [Named F] [Facts]

set_option maxHeartbeats 4000000 in
set_option maxRecDepth 20000 in
/-- The operations before the launch write their buffers in order, from the fourth on: the first three are the arguments. -/
theorem line : Line 3 (hostOps0 : List (HloOp τ sig (Elt F))) := by
  unfold hostOps0
  repeat (first
    | exact Line.nil _
    | refine Line.cons step_nullary (Nat.le_of_ble_eq_true rfl) ?_
    | refine Line.cons (step_unary (Nat.le_of_ble_eq_true rfl)) (Nat.le_of_ble_eq_true rfl) ?_
    | refine Line.cons (step_binary (Nat.le_of_ble_eq_true rfl) (Nat.le_of_ble_eq_true rfl)) (Nat.le_of_ble_eq_true rfl) ?_
    | refine Line.cons (step_reshape (Nat.le_of_ble_eq_true rfl)) (Nat.le_of_ble_eq_true rfl) ?_)

/-- What every buffer holds when the launch begins. -/
def entry (m : (ℓ : Loc nD τ sig) → Buf (Elt F) ℓ) (c : Dev nD) : Valuation τ sig (Elt F) :=
  after hostOps0 fun b => m (c, b)

/-- When the launch begins, the equations of all the host operations before it hold. -/
theorem sat (m : (ℓ : Loc nD τ sig) → Buf (Elt F) ℓ) (c : Dev nD) : Sat (entry m c) (hostOps0 : List (HloOp τ sig (Elt F))) :=
  line.fixes _

end Cert.Proof.Kern
-- ==== Proof.Words.lean ====
/-
  The random words.  Both programs mix a counter with a key in twenty rounds of additions, rotations and exclusive ors, whole
  arrays at a time; here the rounds are functions of arrays of words of any shape.
-/
module

public import Idealize.ShloMosaic.PureOps.ShapeOps
public import Idealize.ShloMosaic.PureOps.Vector

@[expose] public section

namespace Cert.Proof.Words

open Idealize.ShloMosaic

variable {s z : Shape}

/-- A constant word spread over an array. -/
def all (s : Shape) (k : BitVec 32) : IVec s 32 := fun _ => k

/-- A constant word broadcast to an array is that word at every place. -/
theorem all_eq {c : IVec z 32} {v : IVec s 32} {k : BitVec 32} {dims : Fin z.rank → Fin s.rank} {h : z.BroadcastsInDim s dims}
    (hc : c = constantI z 32 k) (hv : v = broadcastInDim s dims h c) : v = all s k := by
  subst hc hv; rfl

/-- One round: the sum, and the sum exclusive-or the second word rotated left by `r` (`q` is the other shift, `32 - r`). -/
def mix (r q : BitVec 32) (p : IVec s 32 × IVec s 32) : IVec s 32 × IVec s 32 :=
  (addi p.1 p.2, xori (addi p.1 p.2) (ori (Host.shli p.2 (all s r)) (Host.shrui p.2 (all s q))))

/-- The nine operations that spell one round compute it. -/
theorem round {a b a' b' vr vq u v w : IVec s 32} {cr cq : IVec z 32} {r q : BitVec 32}
    {dims : Fin z.rank → Fin s.rank} {h : z.BroadcastsInDim s dims}
    (h₁ : a' = addi a b) (h₂ : cr = constantI z 32 r) (h₃ : vr = broadcastInDim s dims h cr) (h₄ : u = Host.shli b vr)
    (h₅ : cq = constantI z 32 q) (h₆ : vq = broadcastInDim s dims h cq) (h₇ : v = Host.shrui b vq)
    (h₈ : w = ori u v) (h₉ : b' = xori a' w) : mix r q (a, b) = (a', b') := by
  rw [all_eq h₂ h₃] at h₄
  rw [all_eq h₅ h₆] at h₇
  subst h₁ h₄ h₇ h₈ h₉
  rfl

/-- Between the groups of rounds two of the three key words are added, and the group's number. -/
def inj (x y : BitVec 32) (n : BitVec 32) (p : IVec s 32 × IVec s 32) : IVec s 32 × IVec s 32 :=
  (addi p.1 (all s x), addi (addi p.2 (all s y)) (all s n))

/-- The additions that spell a key injection compute it. -/
theorem inject {a b a' b' b'' vx vy vn : IVec s 32} {x y n : BitVec 32}
    (hx : vx = all s x) (h₁ : a' = addi a vx) (hy : vy = all s y) (h₂ : b' = addi b vy) (hn : vn = all s n)
    (h₃ : b'' = addi b' vn) : inj x y n (a, b) = (a', b'') := by
  subst hx hy hn h₁ h₂ h₃; rfl

/-- The first kind of group of rounds. -/
def groupA (p : IVec s 32 × IVec s 32) : IVec s 32 × IVec s 32 :=
  mix 6#32 26#32 (mix 26#32 6#32 (mix 15#32 17#32 (mix 13#32 19#32 p)))
/-- The second kind of group. -/
def groupB (p : IVec s 32 × IVec s 32) : IVec s 32 × IVec s 32 :=
  mix 24#32 8#32 (mix 16#32 16#32 (mix 29#32 3#32 (mix 17#32 15#32 p)))

/-- Four rounds one after the other are a group of the first kind. -/
theorem groupA_eq {p₀ p₁ p₂ p₃ p₄ : IVec s 32 × IVec s 32} (h₁ : mix 13#32 19#32 p₀ = p₁) (h₂ : mix 15#32 17#32 p₁ = p₂)
    (h₃ : mix 26#32 6#32 p₂ = p₃) (h₄ : mix 6#32 26#32 p₃ = p₄) : groupA p₀ = p₄ := by
  subst h₁ h₂ h₃ h₄; rfl
/-- Four rounds one after the other are a group of the second kind. -/
theorem groupB_eq {p₀ p₁ p₂ p₃ p₄ : IVec s 32 × IVec s 32} (h₁ : mix 17#32 15#32 p₀ = p₁) (h₂ : mix 29#32 3#32 p₁ = p₂)
    (h₃ : mix 16#32 16#32 p₂ = p₃) (h₄ : mix 24#32 8#32 p₃ = p₄) : groupB p₀ = p₄ := by
  subst h₁ h₂ h₃ h₄; rfl

/-- The words made from the key `(x, y)`, whose third word is `t`, and the counters `(hi, lo)`. -/
def words (x y t : BitVec 32) (hi lo : IVec s 32) : IVec s 32 × IVec s 32 :=
  inj t x 5#32 (groupA (inj y t 4#32 (groupB (inj x y 3#32 (groupA (inj t x 2#32 (groupB (inj y t 1#32 (groupA
    (addi hi (all s x), addi lo (all s y)))))))))))

/-- Five groups, each followed by its injection, make the words. -/
theorem words_eq {x y t : BitVec 32} {hi lo : IVec s 32} {p₀ p₁ p₂ p₃ p₄ q₀ q₁ q₂ q₃ q₄ q₅ : IVec s 32 × IVec s 32}
    (h₀ : (addi hi (all s x), addi lo (all s y)) = q₀)
    (g₀ : groupA q₀ = p₀) (h₁ : inj y t 1#32 p₀ = q₁)
    (g₁ : groupB q₁ = p₁) (h₂ : inj t x 2#32 p₁ = q₂)
    (g₂ : groupA q₂ = p₂) (h₃ : inj x y 3#32 p₂ = q₃)
    (g₃ : groupB q₃ = p₃) (h₄ : inj y t 4#32 p₃ = q₄)
    (g₄ : groupA q₄ = p₄) (h₅ : inj t x 5#32 p₄ = q₅) : words x y t hi lo = q₅ := by
  subst h₀ g₀ h₁ g₁ h₂ g₂ h₃ g₃ h₄ g₄ h₅; rfl

/-- One word of an array, exclusive-or of the two. -/
def bits (x y t : BitVec 32) (hi lo : IVec s 32) : IVec s 32 := xori (words x y t hi lo).1 (words x y t hi lo).2

end Cert.Proof.Words
-- ==== Proof.Noise.lean ====
/-
  The noise made from random words: a word's upper bits are the fraction of a float between one and two, less one; the noise is
  the negated logarithm of the negated logarithm, a small constant added inside each.
-/
module

public import proofs.«01_k».proof.Proof.Words

@[expose] public section

namespace Cert.Proof.Words

open Idealize.ShloMosaic

variable {F : FTy → Type} [FloatOps F] {s z : Shape}

/-- The word whose upper bits are those of `w` as a fraction under the exponent of one. -/
def unitWord (w : IVec s 32) : IVec s 32 := ori (Host.shrui w (all s 9#32)) (all s 1065353216#32)

/-- The uniform sample of a word. -/
noncomputable def unif (w : IVec s 32) : FVec F s .f32 :=
  subf (bitcastToFloat .f32 (unitWord w)) (constant s .f32 0x3F800000#32)

/-- Minus the logarithm of minus the logarithm. -/
noncomputable def logs (u : FVec F s .f32) : FVec F s .f32 :=
  Host.negf (Host.log (addf (Host.negf (Host.log (addf u (constant s .f32 0x1E3CE508#32)))) (constant s .f32 0x1E3CE508#32)))

/-- The noise of a word. -/
noncomputable def noise (w : IVec s 32) : FVec F s .f32 := logs (unif w)

/-- A constant broadcast to a shape is the constant of that shape. -/
theorem allF_eq {c : FVec F z .f32} {v : FVec F s .f32} {k : BitVec 32} {dims : Fin z.rank → Fin s.rank}
    {h : z.BroadcastsInDim s dims} (hc : c = constant z .f32 k) (hv : v = broadcastInDim s dims h c) :
    v = constant s .f32 k := by
  subst hc hv; rfl

end Cert.Proof.Words
-- ==== Proof.KernNoise.lean ====
/-
  What the kernel's host operations leave for the launch: the reciprocal of the temperature, the transposed codebook and the
  noise, which is made from the words of the key `(0, 42)` and the counters of an array read row by row.
-/
module

public import proofs.«01_k».proof.Proof.KernLine
public import proofs.«01_k».proof.Proof.Noise

@[expose] public section

noncomputable section

namespace Cert.Proof.Kern

open Idealize.SL.Sem Idealize.ShloMosaic Idealize.ShloMosaic.StableHlo Cert.KernelIdeal Cert.KernelIdeal.Gen Cert.Proof.Words

variable {F : FTy → Type} [FloatOps F] [Named F] [Facts]

/-- The counter of an element: its place in the array read row by row. -/
def count : IVec S16384x8192 32 := addi (muli (iotaInDim S16384x8192 32 0) (all _ 8192#32)) (iotaInDim S16384x8192 32 1)

set_option maxHeartbeats 4000000 in
set_option maxRecDepth 20000 in
theorem entry_eq (m : (ℓ : Loc nD τ sig) → Buf (Elt F) ℓ) (d : Dev nD) :
    hold (entry m d) main_call0_v2 = shapeCast S1x1 (Host.divf (constant S_ .f32 0x3F800000#32) (sitofp .f32 (hold (entry m d) main_arg2)))
        shapeCasts_S_S1x1
      ∧ hold (entry m d) main_call0_v3 = transpose S64x8192 [1, 0] (hold (entry m d) main_arg1) transposes_S8192x64_S64x8192_1_0
      ∧ hold (entry m d) main_call0_v201
        = subf (noise (bits 0#32 42#32 466689008#32 (all _ 0#32) count)) (constant S16384x8192 .f32 0x42800000#32) := by
  have H := sat m d
  revert H
  unfold hostOps0
  simp only [sat_cons, sat_nil, sat_nullary, sat_unary, sat_binary, sat_reshape, and_true, and_imp]
  intro v0 cst v1 v2 v3 v4 c v5 v6 v7 v8 c_0 v9 c_1 v10 v11 c_2 v12 v13 v14 c_3 v15 v16 c_4 v17 v18 v19 v20 v21 c_5 v22 v23 c_6
    v24 v25 v26 v27 v28 c_7 v29 v30 c_8 v31 v32 v33 v34 v35 c_9 v36 v37 c_10 v38 v39 v40 v41 c_11 v42 v43 c_12 v44 v45
    c_13 v46 v47 v48 c_14 v49 v50 c_15 v51 v52 v53 v54 v55 c_16 v56 v57 c_17 v58 v59 v60 v61 v62 c_18 v63 v64 c_19 v65
    v66 v67 v68 v69 c_20 v70 v71 c_21 v72 v73 v74 v75 c_22 v76 v77 c_23 v78 v79 c_24 v80 v81 v82 c_25 v83 v84 c_26 v85
    v86 v87 v88 v89 c_27 v90 v91 c_28 v92 v93 v94 v95 v96 c_29 v97 v98 c_30 v99 v100 v101 v102 v103 c_31 v104 v105 c_32
    v106 v107 v108 v109 c_33 v110 v111 c_34 v112 v113 c_35 v114 v115 v116 c_36 v117 v118 c_37 v119 v120 v121 v122 v123
    c_38 v124 v125 c_39 v126 v127 v128 v129 v130 c_40 v131 v132 c_41 v133 v134 v135 v136 v137 c_42 v138 v139 c_43 v140
    v141 v142 v143 c_44 v144 v145 c_45 v146 v147 c_46 v148 v149 v150 c_47 v151 v152 c_48 v153 v154 v155 v156 v157 c_49
    v158 v159 c_50 v160 v161 v162 v163 v164 c_51 v165 v166 c_52 v167 v168 v169 v170 v171 c_53 v172 v173 c_54 v174 v175
    v176 v177 c_55 v178 v179 c_56 v180 v181 c_57 v182 v183 v184 c_58 v185 v186 c_59 v187 v188 v189 cst_60 v190 v191
    cst_61 v192 v193 v194 v195 cst_62 v196 v197 v198 v199 cst_63 v200 v201
  have e8 := v8.trans (congrArg₂ addi (v6.trans (congrArg₂ muli v4 (all_eq c v5))) v7)
  have w :=
    words_eq (Prod.ext ((congrArg₂ addi (all_eq c_0 v9) (all_eq c_1 v10)).symm.trans v11.symm)
      ((congrArg (addi _) (all_eq c_2 v12).symm).trans v13.symm))
      (groupA_eq
        (round v14 c_3 v15 v16 c_4 v17 v18 v19 v20)
        (round v21 c_5 v22 v23 c_6 v24 v25 v26 v27)
        (round v28 c_7 v29 v30 c_8 v31 v32 v33 v34)
        (round v35 c_9 v36 v37 c_10 v38 v39 v40 v41))
      (inject (all_eq c_11 v42) v43 (all_eq c_12 v44) v45 (all_eq c_13 v46) v47)
      (groupB_eq
        (round v48 c_14 v49 v50 c_15 v51 v52 v53 v54)
        (round v55 c_16 v56 v57 c_17 v58 v59 v60 v61)
        (round v62 c_18 v63 v64 c_19 v65 v66 v67 v68)
        (round v69 c_20 v70 v71 c_21 v72 v73 v74 v75))
      (inject (all_eq c_22 v76) v77 (all_eq c_23 v78) v79 (all_eq c_24 v80) v81)
      (groupA_eq
        (round v82 c_25 v83 v84 c_26 v85 v86 v87 v88)
        (round v89 c_27 v90 v91 c_28 v92 v93 v94 v95)
        (round v96 c_29 v97 v98 c_30 v99 v100 v101 v102)
        (round v103 c_31 v104 v105 c_32 v106 v107 v108 v109))
      (inject (all_eq c_33 v110) v111 (all_eq c_34 v112) v113 (all_eq c_35 v114) v115)
      (groupB_eq
        (round v116 c_36 v117 v118 c_37 v119 v120 v121 v122)
        (round v123 c_38 v124 v125 c_39 v126 v127 v128 v129)
        (round v130 c_40 v131 v132 c_41 v133 v134 v135 v136)
        (round v137 c_42 v138 v139 c_43 v140 v141 v142 v143))
      (inject (all_eq c_44 v144) v145 (all_eq c_45 v146) v147 (all_eq c_46 v148) v149)
      (groupA_eq
        (round v150 c_47 v151 v152 c_48 v153 v154 v155 v156)
        (round v157 c_49 v158 v159 c_50 v160 v161 v162 v163)
        (round v164 c_51 v165 v166 c_52 v167 v168 v169 v170)
        (round v171 c_53 v172 v173 c_54 v174 v175 v176 v177))
      (inject (all_eq c_55 v178) v179 (all_eq c_56 v180) v181 (all_eq c_57 v182) v183)

  have b : _ = bits 0#32 42#32 466689008#32 (all _ 0#32) count := v184.trans (by rw [bits, show count = _ from e8.symm, w])
  have u := v191.trans (congrArg₂ subf
    (v189.trans (congrArg (bitcastToFloat .f32) (v188.trans (congrArg₂ ori (v186.trans (congrArg₂ Host.shrui b (all_eq c_58 v185)))
      (all_eq c_59 v187))))) (allF_eq cst_60 v190))
  have l := v199.trans (congrArg Host.negf (v198.trans (congrArg Host.log (v197.trans (congrArg₂ addf
    (v195.trans (congrArg Host.negf (v194.trans (congrArg Host.log (v193.trans (congrArg₂ addf u (allF_eq cst_61 v192)))))))
    (allF_eq cst_62 v196))))))
  exact ⟨v2.trans (by rw [v1, cst, v0]; rfl), v3, v201.trans (congrArg₂ subf l (allF_eq cst_63 v200))⟩

end Cert.Proof.Kern
-- ==== Proof.First.lean ====
/-
  The first place at which a row is greatest: there is exactly one, and both an arg-max over the lanes of a block and the
  reference's fold over a row return it.
-/
module

public import proofs.«01_k».proof.Proof.Gen.ReferenceIdeal
public import Idealize.ShloMosaic.Lib.Pointwise

@[expose] public section

namespace Cert.Proof.First

open Idealize.ShloMosaic

/-- `v` is the first place at which `f` is greatest. -/
def IsFirst {n : ℕ} (f : Fin n → EReal) (v : Fin n) : Prop := (∀ w, f w ≤ f v) ∧ ∀ w, w < v → f w < f v

/-- A function on finitely many places, at least one, has a first place at which it is greatest. -/
theorem exists_first {n : ℕ} (hn : 0 < n) (f : Fin n → EReal) : ∃ v, IsFirst f v := by
  classical
  obtain ⟨u, -, hu⟩ := Finset.exists_max_image Finset.univ f ⟨⟨0, hn⟩, Finset.mem_univ _⟩
  have hne : (Finset.univ.filter fun w => ∀ z, f z ≤ f w).Nonempty :=
    ⟨u, by simpa using fun z => hu z (Finset.mem_univ z)⟩
  refine ⟨(Finset.univ.filter fun w => ∀ z, f z ≤ f w).min' hne, ?_⟩
  have hm := Finset.min'_mem _ hne
  rw [Finset.mem_filter] at hm
  refine ⟨hm.2, fun w hw => lt_of_not_ge fun hle => ?_⟩
  have : w ∈ Finset.univ.filter fun w => ∀ z, f z ≤ f w := by
    simpa using fun z => (hm.2 z).trans hle
  exact absurd (Finset.min'_le _ w this) (not_le.mpr hw)

/-- The lanes' arg-max of a block's row. -/
theorem reduceIndex_first {a b : ℕ} (h : (⟨2, ![a, b]⟩ : Shape).Reduces [1] ⟨1, ![a]⟩) (x : (⟨2, ![a, b]⟩ : Shape).Idx → EReal)
    (r : Fin a) {v : Fin b} (hv : IsFirst (fun w => x (ix2 r w)) v) :
    Ideal.reduceIndex .argMax 1 h x (ix1 r) = BitVec.ofNat 32 v.val := by
  have hf : ∀ i, h.drop i = ix1 r ↔ ∃ k : Fin b, ix2 r k = i := fun i => h.fiber_r2_a1 (ix1 r) i
  unfold Ideal.reduceIndex
  simp only [if_true]
  refine congrArg (BitVec.ofNat 32) ?_
  have key : ∀ S : Finset ℕ, S.min = ((v.val : ℕ) : WithTop ℕ) → Option.getD S.min 0 = v.val := by
    intro S e; rw [e]; rfl
  apply key
  refine le_antisymm (Finset.min_le ?_) (Finset.le_min ?_)
  · rw [Finset.mem_image]
    refine ⟨ix2 r v, ?_, rfl⟩
    rw [Finset.mem_filter, Finset.mem_filter]
    refine ⟨⟨Finset.mem_univ _, (hf _).mpr ⟨v, rfl⟩⟩, fun i hi => ?_⟩
    rw [Finset.mem_filter] at hi
    obtain ⟨k, rfl⟩ := (hf i).mp hi.2
    exact not_lt.mpr (hv.1 k)
  · intro n hn
    rw [Finset.mem_image] at hn
    obtain ⟨i, hi, rfl⟩ := hn
    rw [Finset.mem_filter, Finset.mem_filter] at hi
    obtain ⟨k, rfl⟩ := (hf i).mp hi.1.2
    have := hi.2 (ix2 r v) (Finset.mem_filter.mpr ⟨Finset.mem_univ _, (hf _).mpr ⟨v, rfl⟩⟩)
    refine WithTop.coe_le_coe.mpr (not_lt.mp fun hlt => this ?_)
    exact hv.2 k hlt

/-! ## The reference's fold -/

/-- The pair `p` is at least as good as `q`: its value is greater, or the same at an index no later. -/
def Better (q p : EReal × BitVec 32) : Prop := q.1 < p.1 ∨ q.1 = p.1 ∧ p.2.toInt ≤ q.2.toInt

/-- A pair is at least as good as itself. -/
theorem Better.refl (p : EReal × BitVec 32) : Better p p := .inr ⟨rfl, le_refl _⟩

/-- Being at least as good is transitive. -/
theorem Better.trans {p q r : EReal × BitVec 32} (h : Better p q) (h' : Better q r) : Better p r := by
  rcases h with h | ⟨h, k⟩
  · rcases h' with h' | ⟨h', -⟩
    · exact .inl (h.trans h')
    · exact .inl (h' ▸ h)
  · rcases h' with h' | ⟨h', k'⟩
    · exact .inl (h ▸ h')
    · exact .inr ⟨h.trans h', k'.trans k⟩

open Cert.ReferenceIdeal in
/-- One step of the reference's fold keeps one of its two pairs, and that one is at least as good as both. -/
theorem pick (p q : EReal × BitVec 32) :
    (reducer_argmax_f32_i32 (F := Ideal) p q = p ∨ reducer_argmax_f32_i32 (F := Ideal) p q = q)
      ∧ Better p (reducer_argmax_f32_i32 (F := Ideal) p q) ∧ Better q (reducer_argmax_f32_i32 (F := Ideal) p q) := by
  obtain ⟨x, i⟩ := p
  obtain ⟨y, j⟩ := q
  have e : reducer_argmax_f32_i32 (F := Ideal) (x, i) (y, j)
      = (if y < x then x else y, if y < x ∨ x = y ∧ i.toInt < j.toInt then i else j) := by
    unfold reducer_argmax_f32_i32
    simp only [Ideal.cmpf_def, Ideal.cmp]
    by_cases h₁ : y < x <;> by_cases h₂ : x = y <;> by_cases h₃ : i.toInt < j.toInt <;>
      simp [h₁, h₂, h₃, IntOp.ori, IntOp.andi, IntOp.cmpi, Scalar.select, BitVec.slt]
  rw [e]
  rcases lt_trichotomy y x with h | h | h
  · simp only [h, if_true, true_or]
    exact ⟨trivial, .refl _, .inl h⟩
  · subst h
    by_cases k : i.toInt < j.toInt
    · simp [k, Better, le_of_lt]
    · simp [k, Better, not_lt.mp k]
  · have h₁ := not_lt.mpr h.le
    have h₂ := h.ne
    simp only [h₁, h₂, if_false, false_and, or_false]
    exact ⟨.inr trivial, .inl h, .refl _⟩

open Cert.ReferenceIdeal in
/-- The whole fold keeps the starting pair or one of the list, and that one is at least as good as all of them. -/
theorem fold_best (l : List (EReal × BitVec 32)) (p : EReal × BitVec 32) :
    (l.foldl (reducer_argmax_f32_i32 (F := Ideal)) p = p ∨ l.foldl (reducer_argmax_f32_i32 (F := Ideal)) p ∈ l)
      ∧ Better p (l.foldl (reducer_argmax_f32_i32 (F := Ideal)) p)
      ∧ ∀ q ∈ l, Better q (l.foldl (reducer_argmax_f32_i32 (F := Ideal)) p) := by
  induction l generalizing p with
  | nil => exact ⟨.inl rfl, .refl _, fun _ h => absurd h (List.not_mem_nil)⟩
  | cons a l ih =>
    obtain ⟨h₁, h₂, h₃⟩ := ih (reducer_argmax_f32_i32 (F := Ideal) p a)
    obtain ⟨k₁, k₂, k₃⟩ := pick p a
    rw [List.foldl_cons]
    refine ⟨?_, k₂.trans h₂, fun q hq => ?_⟩
    · rcases h₁ with h₁ | h₁
      · rw [h₁]
        rcases k₁ with k₁ | k₁
        · exact .inl k₁
        · exact .inr (by rw [k₁]; exact List.mem_cons_self)
      · exact .inr (List.mem_cons_of_mem _ h₁)
    · rcases List.mem_cons.mp hq with rfl | hq
      · exact k₃.trans h₂
      · exact h₃ q hq

open Cert.ReferenceIdeal in
/-- The reference's arg-max of a row of real numbers. -/
theorem argReduce_first {a b : ℕ} (hb : b < 2 ^ 31) {u : Shape} (h : (⟨2, ![a, b]⟩ : Shape).ReducesTo [1] ⟨1, ![a]⟩)
    (hu : 0 < u.numel) (x : FVec Ideal ⟨2, ![a, b]⟩ .f32) (ix : FVec Ideal u .f32) (iy : IVec u 32) (r : Fin a) {v : Fin b}
    (hi : ix (Shape.Idx.first hu) = (⊥ : EReal)) (hx : (⊥ : EReal) < x (ix2 r v)) (hv : IsFirst (fun w => x (ix2 r w)) v) :
    (Host.argReduce (F := Ideal) reducer_argmax_f32_i32 x (iotaInDim _ 32 1) ix iy h hu (ix1 r)).2 = BitVec.ofNat 32 v.val := by
  have hf : ∀ i, h.drop i = ix1 r ↔ ∃ k : Fin b, ix2 r k = i := fun i => h.fiber_r2_a1 (ix1 r) i
  have hmem : ∀ q, q ∈ Host.argReduceFiber x (iotaInDim _ 32 1) h (ix1 r) ↔ ∃ k : Fin b, (x (ix2 r k), BitVec.ofNat 32 k.val) = q := by
    intro q
    unfold Host.argReduceFiber
    simp only [List.mem_map, List.mem_filter, List.mem_finRange, true_and, decide_eq_true_eq]
    constructor
    · rintro ⟨n, hn, rfl⟩
      obtain ⟨k, hk⟩ := (hf _).mp hn
      rw [← hk]
      exact ⟨k, rfl⟩
    · rintro ⟨k, rfl⟩
      refine ⟨(⟨2, ![a, b]⟩ : Shape).rowMajor (ix2 r k), ?_, ?_⟩
      · rw [Equiv.symm_apply_apply]; exact (hf _).mpr ⟨k, rfl⟩
      · rw [Equiv.symm_apply_apply]; rfl
  rw [Ideal.argReduce_eq_reduce2, Host.reduce2_eq_foldl_fiber]
  obtain ⟨h₁, -, h₃⟩ := fold_best (Host.argReduceFiber x (iotaInDim _ 32 1) h (ix1 r)) (ix (Shape.Idx.first hu), iy (Shape.Idx.first hu))
  have hbest := h₃ _ ((hmem _).mpr ⟨v, rfl⟩)
  rcases h₁ with h₁ | h₁
  · rw [h₁] at hbest
    rcases hbest with k | ⟨k, -⟩
    · rw [hi] at k; exact absurd k not_lt_bot
    · rw [hi] at k; rw [show x (ix2 r v) = ⊥ from k] at hx; exact absurd hx (lt_irrefl _)
  · obtain ⟨k, hk⟩ := (hmem _).mp h₁
    rw [← hk] at hbest ⊢
    have toInt : ∀ w : Fin b, (BitVec.ofNat 32 w.val).toInt = w.val := by
      intro w
      rw [BitVec.toInt_eq_toNat_of_lt (by rw [BitVec.toNat_ofNat]; omega), BitVec.toNat_ofNat, Nat.mod_eq_of_lt (by omega)]
    rcases hbest with hlt | ⟨he, hle⟩
    · exact absurd hlt (not_lt.mpr (hv.1 k))
    · rw [toInt, toInt] at hle
      rcases lt_or_eq_of_le (Nat.cast_le.mp hle : k.val ≤ v.val) with hkv | hkv
      · exact absurd (hv.2 k hkv) (by show ¬ x (ix2 r k) < x (ix2 r v); rw [show x (ix2 r v) = x (ix2 r k) from he]; exact lt_irrefl _)
      · show BitVec.ofNat 32 k.val = _
        rw [hkv]

end Cert.Proof.First
-- ==== Proof.KernPay.lean ====
/-
  The kernel body's stored values, element by element, as expressions of the blocks it reads.
-/
module

public import proofs.«01_k».proof.Proof.Gen.KernelIdeal.Frame
public import proofs.«01_k».proof.Proof.First
public import Idealize.ShloMosaic.Lib.Pointwise

@[expose] public section

noncomputable section

namespace Cert.Proof.Kern

open Idealize.SL.Sem Idealize.ShloMosaic Cert.KernelIdeal Cert.KernelIdeal.Gen
open scoped BigOperators

/-- The squared length of a code, a sum down a column of the transposed codebook. -/
theorem lengths_apply (x1 : FVec Ideal S64x8192 .f32) (v : Fin 8192) :
    k0_pay1 (F := Ideal) x1 (ix2 0 v) = ∑ k : Fin 64, x1 (ix2 k v) * x1 (ix2 k v) := by
  pointwise [k0_pay1]

/-- The scores: twice the inner product less the squared length. -/
theorem score_apply (x0 : FVec Ideal S512x64 .f32) (x1 : FVec Ideal S64x8192 .f32) (s0 : FVec Ideal S1x8192 .f32)
    (r : Fin 512) (v : Fin 8192) :
    k0_pay3 (F := Ideal) x0 x1 s0 (ix2 r v) = (∑ k : Fin 64, (x0 (ix2 r k) + x0 (ix2 r k)) * x1 (ix2 k v)) - s0 (ix2 0 v) := by
  pointwise [k0_pay3]

/-- The second scratch array holds the codebook in its first 64 columns. -/
theorem codes_apply (x2 : FVec Ideal S8192x64 .f32) (v : Fin 8192) (k : Fin 64) :
    k0_pay2 (F := Ideal) x2 (ix2 v (k.castLE (by decide))) = x2 (ix2 v k) := by
  pointwise [k0_pay2]
  exact dif_pos k.isLt

/-- Its column 64 holds ones. -/
theorem ones_apply (x2 : FVec Ideal S8192x64 .f32) (v : Fin 8192) : k0_pay2 (F := Ideal) x2 (ix2 v 64) = 1 := by
  pointwise [k0_pay2]

/-- The unnormalised weights of a row. -/
def weight (x0 : FVec Ideal S512x64 .f32) (x1 : FVec Ideal S64x8192 .f32) (s0 : FVec Ideal S1x8192 .f32) (t : EReal)
    (x3 : FVec Ideal S512x8192 .f32) (r : Fin 512) (v : Fin 8192) : EReal :=
  Ideal.exp2 ((k0_pay3 (F := Ideal) x0 x1 s0 (ix2 r v) + x3 (ix2 r v)) * (t * (((Real.log 2)⁻¹ : ℝ) : EReal)))

/-- The soft code: the weighted sum of a column of the second scratch array, over the weighted sum of its column 64. -/
theorem soft_apply (x0 : FVec Ideal S512x64 .f32) (x1 : FVec Ideal S64x8192 .f32) (s0 : FVec Ideal S1x8192 .f32) (t : EReal)
    (x3 : FVec Ideal S512x8192 .f32) (s1 : FVec Ideal S8192x72 .bf16) (r : Fin 512) (k : Fin 64) :
    k0_pay5 (F := Ideal) x0 x1 s0 t x3 s1 (ix2 r k)
      = Ideal.div (∑ v : Fin 8192, weight x0 x1 s0 t x3 r v * s1 (ix2 v (k.castLE (by decide))))
          (∑ v : Fin 8192, weight x0 x1 s0 t x3 r v * s1 (ix2 v 64)) := by
  pointwise [k0_pay5]
  rfl

/-- The nearest code: the first place of the largest score. -/
theorem hard_apply (x0 : FVec Ideal S512x64 .f32) (x1 : FVec Ideal S64x8192 .f32) (s0 : FVec Ideal S1x8192 .f32)
    (r : Fin 512) (v : Fin 8192) (hv : First.IsFirst (fun w => k0_pay3 (F := Ideal) x0 x1 s0 (ix2 r w)) v) :
    k0_pay4 (F := Ideal) x0 x1 s0 (ix2 r 0) = BitVec.ofNat 32 v.val := by
  have e := First.reduceIndex_first reduces_S512x8192_S512 (k0_pay3 (F := Ideal) x0 x1 s0) r hv
  rw [← e]
  pointwise [k0_pay4]
  rfl

end Cert.Proof.Kern
-- ==== Proof.RealEq.lean ====
/-
  The arithmetic of one row, over the reals: the kernel's scores are the reference's negated distances less the input's own
  squared length, so both have the same first largest place, and the kernel's powers of two are the reference's exponentials
  times one positive factor, which cancels.
-/
module

public import proofs.«01_k».proof.Proof.First
public import Idealize.ShloMosaic.Lib.IdealHost
public import Mathlib.Analysis.SpecialFunctions.Pow.Real

@[expose] public section

namespace Cert.Proof.Row

open Idealize.ShloMosaic
open scoped BigOperators

variable {K V : ℕ}

/-- A sum of real numbers is the real sum. -/
theorem sum_real {ι : Type} [Fintype ι] (f : ι → ℝ) : (∑ i, (f i : EReal)) = ((∑ i, f i : ℝ) : EReal) := by
  classical
  induction (Finset.univ : Finset ι) using Finset.induction_on with
  | empty => simp
  | insert a s ha ih => rw [Finset.sum_insert ha, Finset.sum_insert ha, ih, EReal.coe_add]

/-- A quotient of real numbers is the real quotient. -/
theorem div_real (x : ℝ) {y : ℝ} (hy : y ≠ 0) : Ideal.div (x : EReal) (y : EReal) = ((x / y : ℝ) : EReal) := by
  rw [Ideal.div_coe hy, ← EReal.coe_mul, mul_one_div]

/-- A row's score against a code: twice the inner product less the code's squared length. -/
def score (x : Fin K → ℝ) (c : Fin V → Fin K → ℝ) (v : Fin V) : ℝ := (∑ k, (x k + x k) * c v k) - ∑ k, c v k * c v k

/-- A row's squared distance from a code. -/
def dist (x : Fin K → ℝ) (c : Fin V → Fin K → ℝ) (v : Fin V) : ℝ :=
  (∑ k, x k * x k) + (∑ k, c v k * c v k) - 2 * ∑ k, x k * c v k

/-- The score is the negated distance and the row's squared length. -/
theorem score_eq (x : Fin K → ℝ) (c : Fin V → Fin K → ℝ) (v : Fin V) : score x c v = -dist x c v + ∑ k, x k * x k := by
  have h : ∑ k, (x k + x k) * c v k = 2 * ∑ k, x k * c v k := by
    rw [Finset.mul_sum]
    exact Finset.sum_congr rfl fun k _ => by ring
  unfold score dist
  rw [h]
  ring

/-- The same place comes first among the scores and among the negated distances. -/
theorem first_score (x : Fin K → ℝ) (c : Fin V → Fin K → ℝ) (v : Fin V)
    (h : First.IsFirst (fun w => ((-dist x c w : ℝ) : EReal)) v) : First.IsFirst (fun w => ((score x c w : ℝ) : EReal)) v := by
  refine ⟨fun w => ?_, fun w hw => ?_⟩
  · have := EReal.coe_le_coe_iff.mp (h.1 w)
    simp only [score_eq]
    exact EReal.coe_le_coe_iff.mpr (by linarith)
  · have := EReal.coe_lt_coe_iff.mp (h.2 w hw)
    simp only [score_eq]
    exact EReal.coe_lt_coe_iff.mpr (by linarith)

/-- A power of two at an exponent divided by `log 2` is an exponential. -/
theorem two_pow (y : ℝ) : Real.rpow 2 (y * (Real.log 2)⁻¹) = Real.exp y := by
  have h2 : Real.log 2 ≠ 0 := (Real.log_pos (by norm_num)).ne'
  show (2 : ℝ) ^ (y * (Real.log 2)⁻¹) = Real.exp y
  rw [Real.rpow_def_of_pos (by norm_num)]
  congr 1
  field_simp

/-- The kernel's quotient of weighted sums and the reference's sum of normalised weights are one number. -/
theorem soft_eq (x : Fin K → ℝ) (c : Fin V → Fin K → ℝ) (g : Fin V → ℝ) (T M : ℝ) (hV : 0 < V) (k : Fin K) :
    (∑ v, Real.rpow 2 ((score x c v + (g v - 64)) * (1 / T * (Real.log 2)⁻¹)) * c v k)
        / (∑ v, Real.rpow 2 ((score x c v + (g v - 64)) * (1 / T * (Real.log 2)⁻¹)) * 1)
      = ∑ v, Real.exp ((-dist x c v + g v) / T - M) / (∑ w, Real.exp ((-dist x c w + g w) / T - M)) * c v k := by
  have hp : ∀ v, Real.rpow 2 ((score x c v + (g v - 64)) * (1 / T * (Real.log 2)⁻¹))
      = Real.exp (((∑ k, x k * x k) - 64) / T + M) * Real.exp ((-dist x c v + g v) / T - M) := by
    intro v
    rw [← mul_assoc, two_pow, ← Real.exp_add, score_eq]
    congr 1
    ring
  have h0 : Real.exp (((∑ k, x k * x k) - 64) / T + M) ≠ 0 := (Real.exp_pos _).ne'
  simp only [hp, mul_one, mul_assoc, ← Finset.mul_sum]
  rw [mul_div_mul_left _ _ h0, Finset.sum_div]
  exact Finset.sum_congr rfl fun v _ => by ring

end Cert.Proof.Row
-- ==== Proof.KernRow.lean ====
/-
  One row of a grid point's results, over the reals.
-/
module

public import proofs.«01_k».proof.Proof.KernPay
public import proofs.«01_k».proof.Proof.RealEq

@[expose] public section

noncomputable section

namespace Cert.Proof.Kern

open Idealize.SL.Sem Idealize.ShloMosaic Cert.KernelIdeal Cert.KernelIdeal.Gen Cert.Proof.Row
open scoped BigOperators

variable {x0 : FVec Ideal S512x64 .f32} {x1 : FVec Ideal S64x8192 .f32} {r : Fin 512} {X : Fin 64 → ℝ} {C : Fin 8192 → Fin 64 → ℝ}

/-- The score against a code is a real number. -/
theorem score_real (hx : ∀ k, x0 (ix2 r k) = (X k : EReal)) (hc : ∀ k v, x1 (ix2 k v) = (C v k : EReal)) (v : Fin 8192) :
    k0_pay3 (F := Ideal) x0 x1 (k0_pay1 (F := Ideal) x1) (ix2 r v) = ((score X C v : ℝ) : EReal) := by
  rw [score_apply, lengths_apply]
  simp only [hx, hc, ← EReal.coe_add, ← EReal.coe_mul, sum_real, ← EReal.coe_sub]
  rfl

/-- The nearest code: the first place of the greatest score. -/
theorem hard_row (hx : ∀ k, x0 (ix2 r k) = (X k : EReal)) (hc : ∀ k v, x1 (ix2 k v) = (C v k : EReal)) (v : Fin 8192)
    (hv : First.IsFirst (fun w => ((score X C w : ℝ) : EReal)) v) :
    k0_pay4 (F := Ideal) x0 x1 (k0_pay1 (F := Ideal) x1) (ix2 r 0) = BitVec.ofNat 32 v.val := by
  refine hard_apply _ _ _ _ _ ?_
  simpa only [score_real hx hc] using hv

/-- The soft code: the codes' sum weighted by powers of two, over the powers' sum. -/
theorem soft_row {x2 : FVec Ideal S8192x64 .f32} {x3 : FVec Ideal S512x8192 .f32} {g : Fin 8192 → ℝ} {T : ℝ}
    (hx : ∀ k, x0 (ix2 r k) = (X k : EReal)) (hc : ∀ k v, x1 (ix2 k v) = (C v k : EReal)) (hc' : ∀ v k, x2 (ix2 v k) = (C v k : EReal))
    (hg : ∀ v, x3 (ix2 r v) = ((g v - 64 : ℝ) : EReal)) (k : Fin 64) :
    k0_pay5 (F := Ideal) x0 x1 (k0_pay1 (F := Ideal) x1) ((1 / T : ℝ) : EReal) x3 (k0_pay2 (F := Ideal) x2) (ix2 r k)
      = (((∑ v, Real.rpow 2 ((score X C v + (g v - 64)) * (1 / T * (Real.log 2)⁻¹)) * C v k)
          / (∑ v, Real.rpow 2 ((score X C v + (g v - 64)) * (1 / T * (Real.log 2)⁻¹)) * 1) : ℝ) : EReal) := by
  have hw : ∀ v, weight x0 x1 (k0_pay1 (F := Ideal) x1) ((1 / T : ℝ) : EReal) x3 r v
      = ((Real.rpow 2 ((score X C v + (g v - 64)) * (1 / T * (Real.log 2)⁻¹)) : ℝ) : EReal) := fun v => by
    unfold weight
    rw [score_real hx hc, hg, ← EReal.coe_add, ← EReal.coe_mul, ← EReal.coe_mul]
    rfl
  have h0 : (∑ v : Fin 8192, Real.rpow 2 ((score X C v + (g v - 64)) * (1 / T * (Real.log 2)⁻¹)) * 1) ≠ 0 :=
    (Finset.sum_pos (fun v _ => mul_pos (Real.rpow_pos_of_pos (by norm_num) _) one_pos) ⟨0, Finset.mem_univ _⟩).ne'
  rw [soft_apply, ← div_real _ h0, ← sum_real, ← sum_real]
  exact congrArg₂ Ideal.div
    (Finset.sum_congr rfl fun v _ => by rw [hw, codes_apply, hc', EReal.coe_mul])
    (Finset.sum_congr rfl fun v _ => by rw [hw, ones_apply, EReal.coe_mul, EReal.coe_one])

end Cert.Proof.Kern
-- ==== Proof.RefLine.lean ====
/-
  The reference is a straight line of host operations: its list of operations, read off the printed functions one piece at a
  time, the order of its buffers, and its run.
-/
module

public import proofs.«01_k».proof.Proof.HostLine
public import proofs.«01_k».proof.Proof.Gen.ReferenceIdeal

@[expose] public section

noncomputable section

namespace Cert.Proof.Ref

open Idealize.SL.Sem Idealize.ShloMosaic Idealize.ShloMosaic.StableHlo Cert.ReferenceIdeal

variable {F : FTy → Type} [FloatOps F] [Facts]

/-! ## The function that mixes the key into the counters -/

section Mix
variable (a0 a1 : TRef sig ⟨S_, .i32⟩) (a2 a3 : TRef sig ⟨S16384x8192, .i32⟩) (φ : fn_threefry2x32.Bufs)

/-- The operations of the first part of the mixing, in order. -/
def mix0 : {ops : List (HloOp τ sig (Elt F)) // IsSeq (fn_threefry2x32.body_part0 (F := F) a0 a1 a2 a3 φ) ops} :=
  by
  apply Subtype.mk
  unfold fn_threefry2x32.body_part0
  repeat (first | exact isSeq_last | apply IsSeq.cons)
/-- Those of the second part. -/
def mix1 : {ops : List (HloOp τ sig (Elt F)) // IsSeq (fn_threefry2x32.body_part1 (F := F) a0 a1 a2 a3 φ) ops} :=
  by
  apply Subtype.mk
  unfold fn_threefry2x32.body_part1
  repeat (first | exact isSeq_last | apply IsSeq.cons)
/-- Those of the third part. -/
def mix2 : {ops : List (HloOp τ sig (Elt F)) // IsSeq (fn_threefry2x32.body_part2 (F := F) a0 a1 a2 a3 φ) ops} :=
  by
  apply Subtype.mk
  unfold fn_threefry2x32.body_part2
  repeat (first | exact isSeq_last | apply IsSeq.cons)
/-- Those of the last part. -/
def mix3 : {ops : List (HloOp τ sig (Elt F)) // IsSeq (fn_threefry2x32.body_part3 (F := F) a0 a1 a2 a3 φ) ops} :=
  by
  apply Subtype.mk
  unfold fn_threefry2x32.body_part3
  repeat (first | exact IsSeq.nil | exact isSeq_last | apply IsSeq.cons)

/-- The operations of the whole mixing, in order. -/
def mixOps : List (HloOp τ sig (Elt F)) :=
  (mix0 a0 a1 a2 a3 φ).1 ++ ((mix1 a0 a1 a2 a3 φ).1 ++ ((mix2 a0 a1 a2 a3 φ).1 ++ (mix3 a0 a1 a2 a3 φ).1))

/-- The mixing is the straight line of its operations. -/
theorem isSeq_mix : IsSeq (fn_threefry2x32.body (F := F) a0 a1 a2 a3 φ) (mixOps a0 a1 a2 a3 φ) := by
  unfold fn_threefry2x32.body
  exact isSeq_call (mix0 ..).2 (isSeq_call (mix1 ..).2 (isSeq_call (mix2 ..).2 (mix3 ..).2))

end Mix

/-! ## The other two functions and the main one -/

def uniform (a0 : TRef sig ⟨S2, .i32⟩) (a1 a2 : TRef sig ⟨S_, .f32⟩) (φ : fn_uniform.Bufs) :
    {ops : List (HloOp τ sig (Elt F)) // IsSeq (fn_uniform.body (F := F) a0 a1 a2 φ) ops} :=
  by
    apply Subtype.mk
    unfold fn_uniform.body
    iterate 22 apply IsSeq.cons
    apply isSeq_call (isSeq_mix ..)
    repeat (first | exact IsSeq.nil | exact isSeq_last | apply IsSeq.cons)

/-- The operations of the argmax, in order. -/
def argmaxLine (a0 : TRef sig ⟨S16384x8192, .f32⟩) (φ : fn_argmax.Bufs) :
    {ops : List (HloOp τ sig (Elt F)) // IsSeq (fn_argmax.body (F := F) a0 φ) ops} :=
  by
    apply Subtype.mk
    unfold fn_argmax.body
    repeat (first | exact IsSeq.nil | exact isSeq_last | apply IsSeq.cons)

/-- The sampler is the straight line of its operations. -/
theorem isSeq_uniform (a0 : TRef sig ⟨S2, .i32⟩) (a1 a2 : TRef sig ⟨S_, .f32⟩) (φ : fn_uniform.Bufs) :
    IsSeq (fn_uniform.body (F := F) a0 a1 a2 φ) (uniform a0 a1 a2 φ).1 := (uniform a0 a1 a2 φ).2

/-- The argmax is the straight line of its operations. -/
theorem isSeq_argmax (a0 : TRef sig ⟨S16384x8192, .f32⟩) (φ : fn_argmax.Bufs) :
    IsSeq (fn_argmax.body (F := F) a0 φ) (argmaxLine a0 φ).1 := (argmaxLine a0 φ).2

/-- The operations of the reference's first part, in order, those of the functions that it calls among them. -/
def main0 (d : Dev nD) : {ops : List (HloOp τ sig (Elt F)) // IsSeq (main_part0 (F := F) d) ops} :=
  by
    apply Subtype.mk
    unfold main_part0
    iterate 19 apply IsSeq.cons
    apply isSeq_call (isSeq_argmax ..)
    iterate 13 apply IsSeq.cons
    apply isSeq_call (isSeq_uniform ..)
    repeat (first | exact isSeq_last | apply IsSeq.cons)

/-- The operations of the reference's second part, in order. -/
def main1 (d : Dev nD) : {ops : List (HloOp τ sig (Elt F)) // IsSeq (main_part1 (F := F) d) ops} :=
  by
    apply Subtype.mk
    unfold main_part1
    repeat (first | exact IsSeq.nil | apply IsSeq.cons)

/-- The reference's operations in order. -/
def ops (d : Dev nD) : List (HloOp τ sig (Elt F)) := (main0 d).1 ++ (main1 d).1

/-- The reference is the straight line of its operations. -/
theorem isSeq_main (d : Dev nD) : IsSeq (main (F := F) d) (ops d) := by
  unfold main
  exact isSeq_call (main0 d).2 (main1 d).2

end Cert.Proof.Ref
-- ==== Proof.RefRun.lean ====
/-
  The order of the reference's buffers, and its run.
-/
module

public import proofs.«01_k».proof.Proof.RefLine
public import Idealize.ShloMosaic.Lib.Quiescent

@[expose] public section

noncomputable section

namespace Cert.Proof.Ref

open Idealize.SL.Sem Idealize.ShloMosaic Idealize.ShloMosaic.StableHlo Cert.ReferenceIdeal

variable {F : FTy → Type} [FloatOps F] [Facts]

set_option maxHeartbeats 4000000 in
set_option maxRecDepth 20000 in
/-- The reference's operations write its buffers in order, from the fourth on: the first three are the arguments. -/
theorem line (d : Dev nD) : Line 3 (ops (F := F) d) := by
  simp only [ops, main0, main1, argmaxLine, uniform, mixOps, mix0, mix1, mix2, mix3, List.cons_append, List.nil_append]
  repeat (first
    | exact Line.nil _
    | refine Line.cons step_nullary (Nat.le_of_ble_eq_true rfl) ?_
    | refine Line.cons (step_unary (Nat.le_of_ble_eq_true rfl)) (Nat.le_of_ble_eq_true rfl) ?_
    | refine Line.cons (step_binary (Nat.le_of_ble_eq_true rfl) (Nat.le_of_ble_eq_true rfl)) (Nat.le_of_ble_eq_true rfl) ?_
    | refine Line.cons (step_reshape (Nat.le_of_ble_eq_true rfl)) (Nat.le_of_ble_eq_true rfl) ?_
    | refine Line.cons (step_quaternary (Nat.le_of_ble_eq_true rfl) (Nat.le_of_ble_eq_true rfl) (Nat.le_of_ble_eq_true rfl)
        (Nat.le_of_ble_eq_true rfl)) (Nat.le_of_ble_eq_true rfl) ?_)

/-- What every buffer holds when the reference has run. -/
def final (m : (ℓ : Loc nD τ sig) → Buf (Elt F) ℓ) (d : Dev nD) : Valuation τ sig (Elt F) :=
  after (ops d) (launchContents m d)

/-- When the reference has run, the equations of all its operations hold. -/
theorem sat (m : (ℓ : Loc nD τ sig) → Buf (Elt F) ℓ) (d : Dev nD) : Sat (final m d) (ops d) :=
  (line d).fixes _

/-- The three arguments still hold what they held at the start. -/
theorem final_arg (m : (ℓ : Loc nD τ sig) → Buf (Elt F) ℓ) (d : Dev nD) (r : Ref sig .tc) (h : key r < 3) :
    hold (final m d) r = m ((d.tc : Thread nD τ).loc r) :=
  (line d).keeps h _

/-- The reference runs, and every buffer ends with the contents `final` gives it. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = hold (final m d) b :=
  run_seq (by decide) (by decide) defs main ops isSeq_main (fun d => (line d).sub) m ρ (fun d => (line d).fresh)

/-- The reference's frame: it runs, keeps its arguments and leaves every semaphore at zero. -/
theorem quiet (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2))
      ∧ r.2.sem = fun _ => 0 :=
  θ_run_mono (run m ρ) fun r h =>
    ⟨fun c => ⟨(h c _).trans (final_arg m c _ (by decide)), (h c _).trans (final_arg m c _ (by decide)),
      (h c _).trans (final_arg m c _ (by decide))⟩, sem_eq_zero_of_no_sems (by decide) r.2⟩

end Cert.Proof.Ref
-- ==== Proof.RefWords.lean ====
/-
  The reference's mixing function returns the words of `Words.words`.
-/
module

public import proofs.«01_k».proof.Proof.RefLine
public import proofs.«01_k».proof.Proof.Words

@[expose] public section

noncomputable section

namespace Cert.Proof.Ref

open Idealize.SL.Sem Idealize.ShloMosaic Idealize.ShloMosaic.StableHlo Cert.ReferenceIdeal Cert.Proof.Words

variable {F : FTy → Type} [FloatOps F] [Facts]

set_option maxHeartbeats 4000000 in
set_option maxRecDepth 20000 in
/-- Where a call's equations hold and its key is `(x, y)`, its two results are the words of that key and its counters. -/
theorem mix_words {a0 a1 : TRef sig ⟨S_, .i32⟩} {a2 a3 : TRef sig ⟨S16384x8192, .i32⟩} {φ : fn_threefry2x32.Bufs}
    {W : Valuation τ sig (Elt F)} (H : Sat W (mixOps a0 a1 a2 a3 φ)) {x y : BitVec 32}
    (k0 : get W a0 = constantI S_ 32 x) (k1 : get W a1 = constantI S_ 32 y) :
    words x y (x ^^^ y ^^^ 466688986#32) (get W a2) (get W a3) = (get W φ.v171, get W φ.v175) := by
  revert H
  simp only [mixOps, mix0, mix1, mix2, mix3, sat_append, sat_cons, sat_nil, sat_nullary, sat_unary, sat_binary, and_true, and_imp]
  intro v0 c v1 v2 v3 v4 v5 v6 c_0 v7 v8 c_1 v9 v10 v11 v12 v13 c_2 v14 v15 c_3 v16 v17 v18 v19 v20 c_4 v21 v22 c_5 v23 v24 v25
    v26 v27 c_6 v28 v29 c_7 v30 v31 v32 v33 v34 v35 v36 v37 c_8 v38 v39 v40 c_9 v41 v42 c_10 v43 v44 v45 v46 v47 c_11
    v48 v49 c_12 v50 v51 v52 v53 v54 c_13 v55 v56 c_14 v57 v58 v59 v60 v61 c_15 v62 v63 c_16 v64 v65 v66 v67 v68 v69 v70
    v71 c_17 v72 v73 v74 c_18 v75 v76 c_19 v77 v78 v79 v80 v81 c_20 v82 v83 c_21 v84 v85 v86 v87 v88 c_22 v89 v90 c_23
    v91 v92 v93 v94 v95 c_24 v96 v97 c_25 v98 v99 v100 v101 v102 v103 v104 v105 c_26 v106 v107 v108 c_27 v109 v110 c_28
    v111 v112 v113 v114 v115 c_29 v116 v117 c_30 v118 v119 v120 v121 v122 c_31 v123 v124 c_32 v125 v126 v127 v128 v129
    c_33 v130 v131 c_34 v132 v133 v134 v135 v136 v137 v138 v139 c_35 v140 v141 v142 c_36 v143 v144 c_37 v145 v146 v147
    v148 v149 c_38 v150 v151 c_39 v152 v153 v154 v155 v156 c_40 v157 v158 c_41 v159 v160 v161 v162 v163 c_42 v164 v165
    c_43 v166 v167 v168 v169 v170 v171 v172 v173 c_44 v174 v175
  have k2 : get W φ.v1 = constantI S_ 32 (x ^^^ y ^^^ 466688986#32) := by
    rw [v1, v0, c, k0, k1]; rfl
  exact
    words_eq (Prod.ext ((congrArg (addi _) (all_eq k0 v2).symm).trans v3.symm) ((congrArg (addi _) (all_eq k1 v4).symm).trans v5.symm))
      (groupA_eq
        (round v6 c_0 v7 v8 c_1 v9 v10 v11 v12)
        (round v13 c_2 v14 v15 c_3 v16 v17 v18 v19)
        (round v20 c_4 v21 v22 c_5 v23 v24 v25 v26)
        (round v27 c_6 v28 v29 c_7 v30 v31 v32 v33))
      (inject (all_eq k1 v34) v35 (all_eq k2 v36) v37 (all_eq c_8 v38) v39)
      (groupB_eq
        (round v40 c_9 v41 v42 c_10 v43 v44 v45 v46)
        (round v47 c_11 v48 v49 c_12 v50 v51 v52 v53)
        (round v54 c_13 v55 v56 c_14 v57 v58 v59 v60)
        (round v61 c_15 v62 v63 c_16 v64 v65 v66 v67))
      (inject (all_eq k2 v68) v69 (all_eq k0 v70) v71 (all_eq c_17 v72) v73)
      (groupA_eq
        (round v74 c_18 v75 v76 c_19 v77 v78 v79 v80)
        (round v81 c_20 v82 v83 c_21 v84 v85 v86 v87)
        (round v88 c_22 v89 v90 c_23 v91 v92 v93 v94)
        (round v95 c_24 v96 v97 c_25 v98 v99 v100 v101))
      (inject (all_eq k0 v102) v103 (all_eq k1 v104) v105 (all_eq c_26 v106) v107)
      (groupB_eq
        (round v108 c_27 v109 v110 c_28 v111 v112 v113 v114)
        (round v115 c_29 v116 v117 c_30 v118 v119 v120 v121)
        (round v122 c_31 v123 v124 c_32 v125 v126 v127 v128)
        (round v129 c_33 v130 v131 c_34 v132 v133 v134 v135))
      (inject (all_eq k1 v136) v137 (all_eq k2 v138) v139 (all_eq c_35 v140) v141)
      (groupA_eq
        (round v142 c_36 v143 v144 c_37 v145 v146 v147 v148)
        (round v149 c_38 v150 v151 c_39 v152 v153 v154 v155)
        (round v156 c_40 v157 v158 c_41 v159 v160 v161 v162)
        (round v163 c_42 v164 v165 c_43 v166 v167 v168 v169))
      (inject (all_eq k2 v170) v171 (all_eq k0 v172) v173 (all_eq c_44 v174) v175)

end Cert.Proof.Ref
-- ==== Proof.NoiseReal.lean ====
/-
  At the exact values the uniform sample is a multiple of `2⁻²³` from zero up to below one, and the noise is a real number.
-/
module

public import proofs.«01_k».proof.Proof.Noise
public import Idealize.ShloMosaic.PureOps.Ideal
public import Mathlib.Analysis.SpecialFunctions.Log.Basic

@[expose] public section

namespace Cert.Proof.Words

open Idealize.ShloMosaic

variable {s : Shape}

/-- A fraction of 23 bits under the exponent of one. -/
theorem unit_float (b : BitVec 32) (k : ℕ) (hk : k < 2 ^ 23) (hb : b.toNat = 1065353216 + k) :
    Ideal.ofBits .f32 b = ((1 + k / 2 ^ 23 : ℝ) : EReal) := by
  have h₁ : (b.extractLsb' 31 1 == 1#1) = false := by
    rw [beq_eq_false_iff_ne]
    intro e
    have := congrArg BitVec.toNat e
    rw [BitVec.extractLsb'_toNat, hb, Nat.shiftRight_eq_div_pow] at this
    simp only [BitVec.toNat_ofNat] at this
    omega
  have h₂ : (b.extractLsb' 23 8).toNat = 127 := by
    rw [BitVec.extractLsb'_toNat, hb, Nat.shiftRight_eq_div_pow]
    omega
  have h₃ : (b.extractLsb' 0 23).toNat = k := by
    rw [BitVec.extractLsb'_toNat, hb, Nat.shiftRight_eq_div_pow]
    omega
  show Ideal.ieee 8 23 b = _
  unfold Ideal.ieee
  simp only [h₁, h₂, h₃]
  simp only [Bool.false_eq_true, if_false]
  rw [if_neg (by norm_num), if_neg (by norm_num)]
  congr 1
  push_cast
  norm_num
  field_simp

/-- The word of the sample is the pattern of one plus the upper 23 bits of the drawn word. -/
theorem unitWord_toNat (w : IVec s 32) (j : s.Idx) : (unitWord w j).toNat = 1065353216 + (w j).toNat / 2 ^ 9 := by
  have hk : (w j).toNat / 2 ^ 9 < 2 ^ 23 := by have := (w j).isLt; omega
  show ((IntOp.shrui .host (w j) 9#32) ||| 1065353216#32).toNat = _
  rw [show IntOp.shrui .host (w j) 9#32 = w j >>> 9#32 from if_pos (by decide), BitVec.toNat_or]
  rw [show (w j >>> 9#32).toNat = (w j).toNat / 2 ^ 9 by simp [Nat.shiftRight_eq_div_pow]]
  have := Nat.two_pow_add_eq_or_of_lt hk 127
  rw [Nat.or_comm]
  exact this.symm

/-- The uniform sample is a multiple of `2⁻²³`, at least zero and less than one. -/
theorem unif_real (w : IVec s 32) (j : s.Idx) :
    ∃ k : ℕ, k < 2 ^ 23 ∧ unif (F := Ideal) w j = ((k / 2 ^ 23 : ℝ) : EReal) := by
  refine ⟨(w j).toNat / 2 ^ 9, by have := (w j).isLt; omega, ?_⟩
  show Ideal.ofBits .f32 (unitWord w j) - Ideal.ofBits .f32 0x3F800000#32 = _
  rw [unit_float _ _ (by have := (w j).isLt; omega) (unitWord_toNat w j), unit_float 0x3F800000#32 0 (by norm_num) (by decide),
    ← EReal.coe_sub]
  congr 1
  push_cast
  ring

/-- The small constant of the logarithms. -/
noncomputable def tiny : ℝ := (2 ^ 23 + 0x3CE508 : ℕ) * (2 : ℝ) ^ (-90 : ℤ)

/-- The pattern of the small constant reads as it. -/
theorem ofBits_tiny : Ideal.ofBits .f32 0x1E3CE508#32 = (tiny : EReal) := by
  simp [Ideal.ofBits, Ideal.ieee, tiny, -EReal.coe_mul]

/-- The small constant is positive. -/
theorem tiny_pos : 0 < tiny := by unfold tiny; positivity

/-- The small constant is less than `2⁻²³`. -/
theorem tiny_lt : tiny < 1 / 2 ^ 23 := by unfold tiny; norm_num

/-- The logarithm of a positive real number is the real logarithm. -/
theorem log_coe {r : ℝ} (h : 0 < r) : Ideal.log (r : EReal) = ((Real.log r : ℝ) : EReal) :=
  if_neg (not_le.mpr h)

/-- The noise is a real number. -/
theorem noise_real (w : IVec s 32) (j : s.Idx) : ∃ g : ℝ, noise (F := Ideal) w j = (g : EReal) := by
  obtain ⟨k, hk, hu⟩ := unif_real w j
  have hk' : (k : ℝ) ≤ 2 ^ 23 - 1 := by
    have : k + 1 ≤ 2 ^ 23 := hk
    have : ((k + 1 : ℕ) : ℝ) ≤ (2 ^ 23 : ℕ) := Nat.cast_le.mpr this
    push_cast at this
    linarith
  have h₀ : 0 < (k / 2 ^ 23 : ℝ) + tiny := by have := tiny_pos; positivity
  have h₁ : (k / 2 ^ 23 : ℝ) + tiny < 1 := by
    have := tiny_lt
    have : (k / 2 ^ 23 : ℝ) ≤ (2 ^ 23 - 1) / 2 ^ 23 := div_le_div_of_nonneg_right hk' (by positivity)
    have : ((2 ^ 23 - 1) / 2 ^ 23 : ℝ) = 1 - 1 / 2 ^ 23 := by norm_num
    linarith
  have h₂ : 0 < -Real.log (k / 2 ^ 23 + tiny) + tiny := by
    have := Real.log_neg h₀ h₁
    have := tiny_pos
    linarith
  refine ⟨-Real.log (-Real.log (k / 2 ^ 23 + tiny) + tiny), ?_⟩
  show -Ideal.log (-Ideal.log (unif (F := Ideal) w j + Ideal.ofBits .f32 0x1E3CE508#32) + Ideal.ofBits .f32 0x1E3CE508#32) = _
  rw [hu, ofBits_tiny, ← EReal.coe_add, log_coe h₀, ← EReal.coe_neg, ← EReal.coe_add, log_coe h₂, ← EReal.coe_neg]

end Cert.Proof.Words
-- ==== Proof.RefUniform.lean ====
/-
  What the reference's uniform sampler returns: the sample of the words whose counters are the elements' places.
-/
module

public import proofs.«01_k».proof.Proof.RefWords
public import proofs.«01_k».proof.Proof.NoiseReal
public import Idealize.ShloMosaic.Lib.IdealHost

@[expose] public section

noncomputable section

namespace Cert.Proof.Ref

open Idealize.SL.Sem Idealize.ShloMosaic Idealize.ShloMosaic.StableHlo Cert.ReferenceIdeal Cert.Proof.Words

/-- The places of the elements as words of 64 bits. -/
def place : IVec S16384x8192 64 :=
  addi (muli (constantI _ 64 8192#64) (iotaInDim S16384x8192 64 0)) (muli (constantI _ 64 1#64) (iotaInDim S16384x8192 64 1))

/-- The places as words of 32 bits. -/
def count : IVec S16384x8192 32 := addi (muli (iotaInDim S16384x8192 32 0) (all _ 8192#32)) (iotaInDim S16384x8192 32 1)

/-- The lower halves of the places' 64 bits are the 32-bit places. -/
theorem place_low : trunci 32 place = count := by
  funext j
  show BitVec.truncate 32 (8192#64 * BitVec.ofNat 64 (j 0).val + 1#64 * BitVec.ofNat 64 (j 1).val)
    = BitVec.ofNat 32 (j 0).val * 8192#32 + BitVec.ofNat 32 (j 1).val
  apply BitVec.eq_of_toNat_eq
  simp only [BitVec.truncate_eq_setWidth, BitVec.toNat_setWidth, BitVec.toNat_add, BitVec.toNat_mul, BitVec.toNat_ofNat]
  omega

/-- The upper halves of the places' 64 bits are zero. -/
theorem place_high : trunci 32 (Host.shrui place (constantI _ 64 32#64)) = all _ 0#32 := by
  funext j
  have h0 : (j 0).val < 16384 := (j 0).isLt
  have h1 : (j 1).val < 8192 := (j 1).isLt
  show BitVec.truncate 32 (IntOp.shrui .host (8192#64 * BitVec.ofNat 64 (j 0).val + 1#64 * BitVec.ofNat 64 (j 1).val) 32#64) = 0#32
  rw [show IntOp.shrui .host (8192#64 * BitVec.ofNat 64 (j 0).val + 1#64 * BitVec.ofNat 64 (j 1).val) 32#64
    = (8192#64 * BitVec.ofNat 64 (j 0).val + 1#64 * BitVec.ofNat 64 (j 1).val) >>> 32#64 from if_pos (by decide)]
  apply BitVec.eq_of_toNat_eq
  simp only [BitVec.truncate_eq_setWidth, BitVec.toNat_setWidth, BitVec.toNat_add, BitVec.toNat_mul, BitVec.toNat_ofNat,
    BitVec.ushiftRight_eq', BitVec.toNat_ushiftRight, Nat.shiftRight_eq_div_pow]
  generalize (j 0).val = a at h0 ⊢
  generalize (j 1).val = b at h1 ⊢
  rw [show 2 ^ (32 % 2 ^ 64) = 4294967296 by norm_num]
  omega

/-- The sample of the words of a key. -/
abbrev sample (x y : BitVec 32) : FVec Ideal S16384x8192 .f32 :=
  unif (bits x y (x ^^^ y ^^^ 466688986#32) (all _ 0#32) count)

variable [Facts]

/-- A constant word broadcast to a shape is the constant of that shape. -/
theorem fill {s z : Shape} {w : ℕ} {c : IVec z w} {v : IVec s w} {k : BitVec w} {dims : Fin z.rank → Fin s.rank}
    {h : z.BroadcastsInDim s dims} (hc : c = constantI z w k) (hv : v = broadcastInDim s dims h c) : v = constantI s w k := by
  subst hc hv; rfl

/-- A sample scaled by one, moved by zero and kept at least zero is itself. -/
theorem affine (w : IVec S16384x8192 32) (j : S16384x8192.Idx) :
    max (Ideal.ofBits .f32 0x00000000#32) (unif (F := Ideal) w j * (Ideal.ofBits .f32 0x3F800000#32 - Ideal.ofBits .f32 0x00000000#32)
      + Ideal.ofBits .f32 0x00000000#32) = unif (F := Ideal) w j := by
  obtain ⟨k, -, hk⟩ := unif_real w j
  rw [hk, show Ideal.ofBits .f32 0x00000000#32 = 0 from Ideal.ofBits_zero_f32, Ideal.ofBits_one_f32, sub_zero, mul_one, add_zero]
  refine max_eq_right ?_
  exact_mod_cast (by positivity : (0 : ℝ) ≤ k / 2 ^ 23)

set_option maxHeartbeats 4000000 in
set_option maxRecDepth 20000 in
theorem uniform_eq {a0 : TRef sig ⟨S2, .i32⟩} {a1 a2 : TRef sig ⟨S_, .f32⟩} {φ : fn_uniform.Bufs}
    {W : Valuation τ sig (Elt Ideal)} (H : Sat W (uniform a0 a1 a2 φ).1) {x y : BitVec 32}
    (k : ∀ i, get W a0 i = if (i 0).val = 0 then x else y)
    (hz : get W a1 = constant (F := Ideal) S_ .f32 0x00000000#32) (ho : get W a2 = constant (F := Ideal) S_ .f32 0x3F800000#32) :
    get W φ.v34 = sample x y := by
  revert H
  simp only [uniform, sat_append, sat_cons, sat_nil, sat_nullary, sat_unary, sat_binary, sat_reshape, and_true, and_imp]
  intro v0 v1 v2 v3 v4 v5 v6 v7 v8 v9 c v10 v11 c_0 v12 v13 v14 c_1 v15 v16 v17 v18 M v20 c_2 v21 v22 c_3 v23 v24 v25 cst v26 v27 v28
    v29 v30 v31 v32 v33 v34
  have e14 := v14.trans (congrArg₂ addi (v11.trans (congrArg₂ muli (fill c v10) v8)) (v13.trans (congrArg₂ muli (fill c_0 v12) v9)))
  have e17 : get W φ.v17 = count := (v17.trans (congrArg (trunci 32) e14)).trans place_low
  have e18 : get W φ.v18 = all _ 0#32 :=
    (v18.trans (congrArg (trunci 32) (v16.trans (congrArg₂ Host.shrui e14 (fill c_1 v15))))).trans place_high
  have e5 : get W φ.v5 = constantI S_ 32 x := by
    rw [v5, v4]; funext i
    refine (k _).trans (if_pos ?_)
    exact (Nat.zero_add _).trans (Nat.lt_one_iff.mp (Fin.isLt _))
  have e7 : get W φ.v7 = constantI S_ 32 y := by
    rw [v7, v6]; funext i
    refine (k _).trans (if_neg ?_)
    exact Nat.ne_of_gt (Nat.lt_of_lt_of_le Nat.one_pos (Nat.le_add_right 1 _))
  have e := mix_words M e5 e7
  rw [e17, e18] at e
  have e20 : get W φ.v20 = bits x y (x ^^^ y ^^^ 466688986#32) (all _ 0#32) count := v20.trans (by rw [bits, e])
  have e27 := v27.trans (congrArg₂ subf
    (v25.trans (congrArg (bitcastToFloat .f32) (v24.trans (congrArg₂ ori (v22.trans (congrArg₂ Host.shrui e20 (all_eq c_2 v21)))
      (all_eq c_3 v23))))) (allF_eq (F := Ideal) (z := S_) (c := get W φ.cst) (v := get W φ.v26) cst v26))
  rw [v34, v33, v32, v31, v30, v29, v28, v3, v2, v1, v0, hz, ho, e27]
  funext j
  exact affine _ j

end Cert.Proof.Ref
-- ==== Proof.RefMain.lean ====
/-
  What the reference's two results are, as compositions of its array operations.
-/
module

public import proofs.«01_k».proof.Proof.RefRun
public import proofs.«01_k».proof.Proof.RefUniform
public import Idealize.ShloMosaic.Lib.Pointwise

@[expose] public section

noncomputable section

namespace Cert.Proof.Ref

open Idealize.SL.Sem Idealize.ShloMosaic Idealize.ShloMosaic.StableHlo Cert.ReferenceIdeal Cert.Proof.Words

variable [Facts]
open Facts₀

/-- The squared distances of the rows from the entries. -/
def distance (x : FVec Ideal S16384x64 .f32) (c : FVec Ideal S8192x64 .f32) : FVec Ideal S16384x8192 .f32 :=
  subf
    (addf
      (broadcastInDim S16384x8192 ![0, 1] bcast_S16384x1_S16384x8192_0_1 (broadcastInDim S16384x1 ![0] bcast_S16384_S16384x1_0
        (Host.reduceAdd (mulf x x) (constant S_ .f32 0x00000000#32) reducesTo_S16384x64_S16384_d1 h_S_)))
      (broadcastInDim S16384x8192 ![0, 1] bcast_S1x8192_S16384x8192_0_1 (broadcastInDim S1x8192 ![1] bcast_S8192_S1x8192_1
        (Host.reduceAdd (mulf (transpose S64x8192 [1, 0] c transposes_S8192x64_S64x8192_1_0)
          (transpose S64x8192 [1, 0] c transposes_S8192x64_S64x8192_1_0)) (constant S_ .f32 0x00000000#32) reducesTo_S64x8192_S8192_d0 h_S_))))
    (mulf (broadcastInDim S16384x8192 ![] bcast_S_S16384x8192 (constant S_ .f32 0x40000000#32))
      (Host.dotGeneral dot_S16384x64_S64x8192_S16384x8192_1_0_0_1_n_n none x (transpose S64x8192 [1, 0] c transposes_S8192x64_S64x8192_1_0)))

/-- The logits: the negated distances with noise, over the temperature. -/
def logits (D N : FVec Ideal S16384x8192 .f32) (t : IVec S_ 32) : FVec Ideal S16384x8192 .f32 :=
  Host.divf (addf (Host.negf D) N) (broadcastInDim S16384x8192 ![] bcast_S_S16384x8192 (sitofp .f32 t))

/-- The greatest logit of a row. -/
def top (L : FVec Ideal S16384x8192 .f32) : FVec Ideal S16384 .f32 :=
  maximumf (broadcastInDim S16384 ![] bcast_S_S16384 (constant S_ .f32 0xFF800000#32))
    (Host.reduce FloatOps.maximumf L (constant S_ .f32 0xFF800000#32) reducesTo_S16384x8192_S16384_d1 h_S_)

/-- The exponentials of the logits less the row's greatest. -/
def expo (L : FVec Ideal S16384x8192 .f32) : FVec Ideal S16384x8192 .f32 :=
  Host.exp (subf L (broadcastInDim S16384x8192 ![0, 1] bcast_S16384x1_S16384x8192_0_1
    (broadcastInDim S16384x1 ![0] bcast_S16384_S16384x1_0 (top L))))

/-- The weights of a row: its exponentials over their sum. -/
def weights (E : FVec Ideal S16384x8192 .f32) : FVec Ideal S16384x8192 .f32 :=
  Host.divf E (broadcastInDim S16384x8192 ![0, 1] bcast_S16384x1_S16384x8192_0_1 (broadcastInDim S16384x1 ![0] bcast_S16384_S16384x1_0
    (Host.reduceAdd E (constant S_ .f32 0x00000000#32) reducesTo_S16384x8192_S16384_d1 h_S_)))

/-- The first result: the weighted sums of the entries. -/
def mean (w : FVec Ideal S16384x8192 .f32) (c : FVec Ideal S8192x64 .f32) : FVec Ideal S16384x64 .f32 :=
  Host.dotGeneral dot_S16384x8192_S8192x64_S16384x64_1_0_0_1_n_n none w c

/-- The second result: the nearest entries. -/
def nearest (D : FVec Ideal S16384x8192 .f32) : IVec S16384x1 32 :=
  broadcastInDim S16384x1 ![0] bcast_S16384_S16384x1_0 fun j =>
    (Host.argReduce reducer_argmax_f32_i32 (Host.negf D) (iotaInDim S16384x8192 32 1) (constant (F := Ideal) S_ .f32 0xFF800000#32)
      (constantI S_ 32 0#32) reducesTo_S16384x8192_S16384_d1 h_S_ j).2

/-- The two words of the key 42 are 0 and 42. -/
theorem key_eq (i : S2.Idx) :
    concatenate S2 0 [⟨S1, broadcastInDim S1 ![] bcast_S_S1 (id (Host.shrui (constantI S_ 32 42#32) (constantI S_ 32 32#32)))⟩,
      ⟨S1, broadcastInDim S1 ![] bcast_S_S1 (id (andi (constantI S_ 32 42#32) (constantI S_ 32 4294967295#32)))⟩] concatenates_S1_S1_S2_d0 i
      = if (i 0).val = 0 then 0#32 else 42#32 := by
  obtain ⟨k, rfl⟩ : ∃ k : Fin 2, i = ix1 k := ⟨_, eq_ix1 i⟩
  fin_cases k <;> rfl

set_option maxHeartbeats 400000 in
set_option maxRecDepth 20000 in
theorem results {W : Valuation τ sig (Elt Ideal)} {d : Dev nD} (H : Sat W (ops d)) :
    hold W main_v50
        = mean (weights (expo (logits (distance (hold W main_arg0) (hold W main_arg1)) (logs (sample 0#32 42#32))
            (hold W main_arg2)))) (hold W main_arg1)
      ∧ hold W main_v17 = nearest (distance (hold W main_arg0) (hold W main_arg1)) := by
  revert H
  simp only [ops, main0, main1, argmaxLine, sat_append, sat_cons, sat_nil, sat_nullary', sat_unary', sat_binary', sat_nullary, sat_quaternary,
    and_true, and_imp]
  intro v0 cst v1 v2 v3 v4 cst_0 v5 v6 v7 v8 v9 v10 v11 cst_1 v12 v13 v14 v15 a0 a1 a2 a3 v16 v17 c c_2 v18 v19 v20 c_3 v21 v22 v23 v24
    cst_4 cst_5 U cst_6 v26 v27 v28 v29 cst_7 v30 v31 v32 v33 v34 v35 v36 v37 v38 cst_8 v39 cst_9 v40 v41 v42 v43 v44 v45 cst_10 v46 v47
    v48 v49 v50
  have e25 : hold W main_v25 = sample 0#32 42#32 := uniform_eq U
    (fun i => (congrFun (v24.trans (by rw [v20, v19, v18, c, c_2, v23, v22, v21, c, c_3])) i).trans (key_eq i)) cst_4 cst_5
  have e14 : hold W main_v14 = distance (hold W main_arg0) (hold W main_arg1) := by
    rw [v14, v9, v7, v2, v1, v0, cst, v8, v6, v5, v4, v3, cst_0, v13, v12, cst_1, v11, v10]; rfl
  have e33 : hold W main_v33 = logs (sample 0#32 42#32) := by
    rw [v33, v32, v31, v30, cst_7, v29, v28, v27, v26, cst_6, e25]; rfl
  have e38 : hold W main_v38 = logits (distance (hold W main_arg0) (hold W main_arg1)) (logs (sample 0#32 42#32))
      (hold W main_arg2) := by
    rw [v38, v35, v34, e14, e33, v37, v36]; rfl
  have e45 := v45.trans (congrArg Host.exp (v44.trans (by rw [v43, v42, v41, v40, cst_9, v39, cst_8, e38])))
  refine ⟨?_, ?_⟩
  · rw [v50, v49, v48, v47, v46, cst_10, e45]; rfl
  · rw [v17]
    have e16 : hold W main_v16 = _ := v16
    have h0 : get W (.of main_call0_v0 : TRef sig ⟨S16384x8192, .i32⟩) = iotaInDim S16384x8192 32 1 := a0
    have h1 : get W (.of main_call0_cst : TRef sig ⟨S_, .f32⟩) = constant (F := Ideal) S_ .f32 0xFF800000#32 := a1
    have h2 : get W (.of main_call0_c : TRef sig ⟨S_, .i32⟩) = constantI S_ 32 0#32 := a2
    have h3 : get W (.of main_v15 : TRef sig ⟨S16384x8192, .f32⟩)
      = Host.negf (F := Ideal) (φ := .f32) (distance (hold W main_arg0) (hold W main_arg1)) := v15.trans (congrArg Host.negf e14)
    rw [e16, h0, h1, h2, h3]
    rfl

end Cert.Proof.Ref
-- ==== Proof.RefValue.lean ====
/-
  The reference's array operations at an index.
-/
module

public import proofs.«01_k».proof.Proof.RefMain
public import proofs.«01_k».proof.Proof.First

@[expose] public section

noncomputable section

namespace Cert.Proof.Ref

open Idealize.ShloMosaic Cert.ReferenceIdeal Cert.Proof.First

variable [Facts]
open Facts₀

/-- A distance: the two squared lengths less twice the product of the input's row and the code. -/
theorem distance_apply (x : FVec Ideal S16384x64 .f32) (c : FVec Ideal S8192x64 .f32) (n : Fin 16384) (v : Fin 8192) :
    distance x c (ix2 n v)
      = (∑ k : Fin 64, x (ix2 n k) * x (ix2 n k)) + (∑ k : Fin 64, c (ix2 v k) * c (ix2 v k))
        - Ideal.ofBits .f32 0x40000000#32 * ∑ k : Fin 64, x (ix2 n k) * c (ix2 v k) := by
  pointwise [distance, dot_S16384x64_S64x8192_S16384x8192_1_0_0_1_n_n]

/-- A logit: the negated distance plus the noise, over the temperature. -/
theorem logits_apply (D N : FVec Ideal S16384x8192 .f32) (t : IVec S_ 32) (n : Fin 16384) (v : Fin 8192) :
    logits D N t (ix2 n v) = Ideal.div (-D (ix2 n v) + N (ix2 n v)) (((t ix0).toInt : ℝ) : EReal) := by
  pointwise [logits]
  rfl

/-- A logit's exponential, after the greatest of its row is taken off. -/
theorem expo_apply (L : FVec Ideal S16384x8192 .f32) (n : Fin 16384) (v : Fin 8192) :
    expo L (ix2 n v) = Ideal.exp (L (ix2 n v) - top L (ix1 n)) := by
  pointwise [expo]

/-- A weight: an exponential over the sum of its row's. -/
theorem weights_apply (E : FVec Ideal S16384x8192 .f32) (n : Fin 16384) (v : Fin 8192) :
    weights E (ix2 n v) = Ideal.div (E (ix2 n v)) (∑ w : Fin 8192, E (ix2 n w)) := by
  pointwise [weights]

/-- An entry of the first result: the sum of the weights times the codes. -/
theorem mean_apply (w : FVec Ideal S16384x8192 .f32) (c : FVec Ideal S8192x64 .f32) (n : Fin 16384) (k : Fin 64) :
    mean w c (ix2 n k) = ∑ v : Fin 8192, w (ix2 n v) * c (ix2 v k) := by
  pointwise [mean, dot_S16384x8192_S8192x64_S16384x64_1_0_0_1_n_n]

end Cert.Proof.Ref
-- ==== Proof.RefTop.lean ====
/-
  The greatest logit of a row of the reference is a real number where the logits are.
-/
module

public import proofs.«01_k».proof.Proof.RefMain

@[expose] public section

noncomputable section

namespace Cert.Proof.Ref

open Idealize.ShloMosaic Cert.ReferenceIdeal

/-- The greatest of a row by the reference's fold. -/
theorem fold_row {a b : ℕ} {u : Shape} (L : FVec Ideal ⟨2, ![a, b]⟩ .f32) (v : FVec Ideal u .f32)
    (h : (⟨2, ![a, b]⟩ : Shape).ReducesTo [1] ⟨1, ![a]⟩) (hu : 0 < u.numel) (r : Fin a) :
    Host.reduce FloatOps.maximumf L v h hu (ix1 r)
      = (Finset.univ : Finset (Fin b)).fold max (v (Shape.Idx.first hu)) fun w => L (ix2 r w) := by
  pointwise

/-- The greatest of finitely many real numbers, at least one, is a real number. -/
theorem fold_real {b : ℕ} (hb : 0 < b) (f : Fin b → EReal) (hf : ∀ w, ∃ y : ℝ, f w = (y : EReal)) :
    ∃ M : ℝ, max ⊥ ((Finset.univ : Finset (Fin b)).fold max ⊥ f) = (M : EReal) := by
  have e : (Finset.univ : Finset (Fin b)).fold max ⊥ f = Finset.univ.sup f := rfl
  obtain ⟨w, -, hw⟩ := Finset.exists_mem_eq_sup Finset.univ ⟨(⟨0, hb⟩ : Fin b), Finset.mem_univ _⟩ f
  obtain ⟨y, hy⟩ := hf w
  exact ⟨y, by rw [e, hw, hy]; exact max_eq_right bot_le⟩

/-- A row's greatest, of any sizes. -/
theorem top_real_of {a b : ℕ} (hb : 0 < b) {u : Shape} (L : FVec Ideal ⟨2, ![a, b]⟩ .f32) (v : FVec Ideal u .f32) (t : FVec Ideal ⟨1, ![a]⟩ .f32)
    (h : (⟨2, ![a, b]⟩ : Shape).ReducesTo [1] ⟨1, ![a]⟩) (hu : 0 < u.numel) (r : Fin a) (hv : v (Shape.Idx.first hu) = (⊥ : EReal))
    (ht : t (ix1 r) = (⊥ : EReal)) (hL : ∀ w, ∃ y : ℝ, L (ix2 r w) = (y : EReal)) :
    ∃ M : ℝ, maximumf t (Host.reduce FloatOps.maximumf L v h hu) (ix1 r) = (M : EReal) := by
  obtain ⟨M, hM⟩ := fold_real hb (fun w => L (ix2 r w)) hL
  refine ⟨M, ?_⟩
  rw [← hM, maximumf_apply, Ideal.maximumf_def, fold_row, hv, ht]

/-- The pattern of minus infinity reads as the least value. -/
theorem bot_eq : Ideal.ofBits .f32 0xFF800000#32 = ⊥ := by
  simp [Ideal.ofBits, Ideal.ieee]

variable [Facts]
open Facts₀

/-- The greatest of a row's real logits is a real number. -/
theorem top_real (L : FVec Ideal S16384x8192 .f32) (n : Fin 16384) (hL : ∀ w : Fin 8192, ∃ y : ℝ, L (ix2 n w) = (y : EReal)) :
    ∃ M : ℝ, top L (ix1 n) = (M : EReal) := by
  unfold top
  exact top_real_of (by norm_num) L _ _ _ _ n bot_eq bot_eq hL

end Cert.Proof.Ref
-- ==== Proof.RefRow.lean ====
/-
  One row of the reference's results, over the reals.
-/
module

public import proofs.«01_k».proof.Proof.RefValue
public import proofs.«01_k».proof.Proof.RefTop
public import proofs.«01_k».proof.Proof.RealEq

@[expose] public section

namespace Cert.Proof.Ref

open Idealize.ShloMosaic Cert.ReferenceIdeal Cert.Proof.Row
open scoped BigOperators

variable [Facts]
open Facts₀

/-- The word of two is two. -/
theorem two_eq : Ideal.ofBits .f32 0x40000000#32 = ((2 : ℝ) : EReal) := by
  simp [Ideal.ofBits, Ideal.ieee, -EReal.coe_mul]
  norm_num

variable {x : FVec Ideal S16384x64 .f32} {c : FVec Ideal S8192x64 .f32} {n : Fin 16384} {X : Fin 64 → ℝ} {C : Fin 8192 → Fin 64 → ℝ}

/-- The squared distance from a code is a real number. -/
theorem distance_real (hx : ∀ k, x (ix2 n k) = (X k : EReal)) (hc : ∀ v k, c (ix2 v k) = (C v k : EReal)) (v : Fin 8192) :
    distance x c (ix2 n v) = ((dist X C v : ℝ) : EReal) := by
  rw [distance_apply, two_eq]
  simp only [hx, hc, ← EReal.coe_mul, sum_real, ← EReal.coe_add, ← EReal.coe_sub]
  rfl

/-- A column of one entry per row, read at a row. -/
theorem spread (f : IVec S16384 32) (n : Fin 16384) :
    broadcastInDim S16384x1 ![0] bcast_S16384_S16384x1_0 f (ix2 n 0) = f (ix1 n) := by
  pointwise

/-- The nearest code: the first place of the greatest negated distance. -/
theorem nearest_row (hx : ∀ k, x (ix2 n k) = (X k : EReal)) (hc : ∀ v k, c (ix2 v k) = (C v k : EReal)) (v : Fin 8192)
    (hv : First.IsFirst (fun w => ((-dist X C w : ℝ) : EReal)) v) : nearest (distance x c) (ix2 n 0) = BitVec.ofNat 32 v.val := by
  have hn : ∀ w, Host.negf (distance x c) (ix2 n w) = ((-dist X C w : ℝ) : EReal) := fun w => by
    show -(distance x c (ix2 n w)) = _
    rw [distance_real hx hc, EReal.coe_neg]
  have hv' : First.IsFirst (fun w => Host.negf (distance x c) (ix2 n w)) v := by
    simpa only [hn] using hv
  have e := First.argReduce_first (by norm_num) reducesTo_S16384x8192_S16384_d1 h_S_ (Host.negf (distance x c))
    (constant (F := Ideal) S_ .f32 0xFF800000#32) (constantI S_ 32 0#32) n bot_eq (by rw [hn]; exact EReal.bot_lt_coe _) hv'
  exact (spread _ n).trans e

/-- The soft code: the codes' sum weighted by the normalised exponentials. -/
theorem mean_row {N : FVec Ideal S16384x8192 .f32} {t : IVec S_ 32} {g : Fin 8192 → ℝ}
    (hx : ∀ k, x (ix2 n k) = (X k : EReal)) (hc : ∀ v k, c (ix2 v k) = (C v k : EReal)) (hN : ∀ v, N (ix2 n v) = (g v : EReal))
    (ht : (t ix0).toInt ≠ 0) (k : Fin 64) :
    ∃ M : ℝ, mean (weights (expo (logits (distance x c) N t))) c (ix2 n k)
      = ((∑ v, Real.exp ((-dist X C v + g v) / ((t ix0).toInt : ℝ) - M)
          / (∑ w, Real.exp ((-dist X C w + g w) / ((t ix0).toInt : ℝ) - M)) * C v k : ℝ) : EReal) := by
  have hT : ((t ix0).toInt : ℝ) ≠ 0 := Int.cast_ne_zero.mpr ht
  have hl : ∀ v, logits (distance x c) N t (ix2 n v) = (((-dist X C v + g v) / ((t ix0).toInt : ℝ) : ℝ) : EReal) := fun v => by
    rw [logits_apply, distance_real hx hc, hN, ← EReal.coe_neg, ← EReal.coe_add, div_real _ hT]
  obtain ⟨M, hM⟩ := top_real (logits (distance x c) N t) n fun w => ⟨_, hl w⟩
  have he : ∀ v, expo (logits (distance x c) N t) (ix2 n v)
      = ((Real.exp ((-dist X C v + g v) / ((t ix0).toInt : ℝ) - M) : ℝ) : EReal) := fun v => by
    rw [expo_apply, hl, hM, ← EReal.coe_sub]
    rfl
  have hs : (∑ w : Fin 8192, Real.exp ((-dist X C w + g w) / ((t ix0).toInt : ℝ) - M)) ≠ 0 :=
    (Finset.sum_pos (fun w _ => Real.exp_pos _) ⟨0, Finset.mem_univ _⟩).ne'
  refine ⟨M, ?_⟩
  rw [mean_apply, ← sum_real]
  refine Finset.sum_congr rfl fun v _ => ?_
  rw [weights_apply, hc, EReal.coe_mul]
  refine congrArg (· * ((C v k : ℝ) : EReal)) ?_
  simp only [he, sum_real]
  exact div_real _ hs

end Cert.Proof.Ref
-- ==== Proof.Meet.lean ====
/-
  The kernel's two result arrays are the reference's, when the inputs and the codebook are real and the temperature is not
  zero.
-/
module

public import proofs.«01_k».proof.Proof.KernArray
public import proofs.«01_k».proof.Proof.KernNoise
public import proofs.«01_k».proof.Proof.KernRow
public import proofs.«01_k».proof.Proof.RefRow

@[expose] public section

noncomputable section

namespace Cert.Proof.Meet

open Idealize.SL.Sem Idealize.ShloMosaic Idealize.ShloMosaic.TcCoe Idealize.ShloMosaic.StableHlo
open Cert.KernelIdeal Cert.KernelIdeal.Gen Cert.KernelIdeal.Value Cert.Proof.Words

/-- The word of sixty-four is sixty-four. -/
theorem sixtyfour_eq : Ideal.ofBits .f32 0x42800000#32 = ((64 : ℝ) : EReal) := by
  simp [Ideal.ofBits, Ideal.ieee, -EReal.coe_mul]
  norm_num

/-- The reciprocal the kernel is handed. -/
def recip (t : IVec S_ 32) : FVec Ideal S1x1 .f32 :=
  shapeCast S1x1 (Host.divf (constant (F := Ideal) S_ .f32 0x3F800000#32) (sitofp .f32 t)) shapeCasts_S_S1x1

/-- It is the temperature's. -/
theorem recip_eq (t : IVec S_ 32) (ht : (t ix0).toInt ≠ 0) :
    Kern.only (F := Ideal) (recip t)
      = ((1 / ((t ix0).toInt : ℝ) : ℝ) : EReal) := by
  haveI : Subsingleton S_.Idx := ⟨fun a b => funext fun k => k.elim0⟩
  have e : Kern.only (F := Ideal) (recip t)
      = Ideal.div (Ideal.ofBits .f32 0x3F800000#32) (((t ix0).toInt : ℝ) : EReal) :=
    congrArg (fun j => Ideal.div (Ideal.ofBits .f32 0x3F800000#32) (((t j).toInt : ℝ) : EReal)) (Subsingleton.elim _ _)
  rw [e, Ideal.ofBits_one_f32, ← EReal.coe_one, Row.div_real _ (Int.cast_ne_zero.mpr ht)]

/-- The transposed codebook, element by element. -/
theorem turned (c : FVec Ideal S8192x64 .f32) (k : Fin 64) (v : Fin 8192) :
    transpose S64x8192 [1, 0] c transposes_S8192x64_S64x8192_1_0 (ix2 k v) = c (ix2 v k) := by
  pointwise

/-- Both programs draw one noise: the words of one key at one set of counters. -/
theorem noise_eq : (noise (bits 0#32 42#32 466689008#32 (all _ 0#32) Kern.count) : FVec Ideal S16384x8192 .f32)
    = logs (Ref.sample 0#32 42#32) := by
  have h : (0#32 ^^^ 42#32 ^^^ 466688986#32 : BitVec 32) = 466689008#32 := by decide
  unfold Ref.sample noise
  rw [h]
  rfl

variable (m : (ℓ : Loc nD τ sig) → Buf (Elt Ideal) ℓ) (c : Dev nD)

/-- What the launch finds beside the arguments: the reciprocal, -/
theorem found_recip : V m c main_call0_v2 = recip (m ((c : Thread nD τ).loc main_arg2)) := by
  have a := (Kern.entry_eq m c).1
  have b : hold (Kern.entry m c) main_arg2 = m ((c : Thread nD τ).loc main_arg2) := V_main_arg2 m c
  rw [b] at a
  exact a

/-- the transposed codebook, -/
theorem found_codes : V m c main_call0_v3
    = transpose S64x8192 [1, 0] (m ((c : Thread nD τ).loc main_arg1)) transposes_S8192x64_S64x8192_1_0 := by
  have a := (Kern.entry_eq m c).2.1
  have b : hold (Kern.entry m c) main_arg1 = m ((c : Thread nD τ).loc main_arg1) := V_main_arg1 m c
  rw [b] at a
  exact a

/-- and the reference's noise less 64. -/
theorem found_noise :
    V m c main_call0_v201 = subf (logs (Ref.sample 0#32 42#32)) (constant (F := Ideal) S16384x8192 .f32 0x42800000#32) := by
  have a := (Kern.entry_eq m c).2.2
  rw [noise_eq] at a
  exact a

/-- A difference from a constant, element by element. -/
theorem less {s : Shape} (a : FVec Ideal s .f32) (k : BitVec 32) (j : s.Idx) :
    subf a (constant (F := Ideal) s .f32 k) j = a j - Ideal.ofBits .f32 k := rfl

/-- The noise is real, and so is what the launch finds. -/
theorem noise_found : ∃ N : S16384x8192.Idx → ℝ, (∀ j, logs (Ref.sample 0#32 42#32) j = (N j : EReal))
    ∧ ∀ j, V m c main_call0_v201 j = ((N j - 64 : ℝ) : EReal) := by
  have h : ∀ j, ∃ g : ℝ, logs (Ref.sample 0#32 42#32) j = (g : EReal) := fun j => by
    rw [← noise_eq]
    exact noise_real _ j
  choose N hN using h
  refine ⟨N, hN, fun j => ?_⟩
  exact (congrFun (found_noise m c) j).trans ((less _ _ j).trans (by rw [hN, sixtyfour_eq, EReal.coe_sub]))

variable [Cert.ReferenceIdeal.Facts]
variable {x : FVec Ideal S16384x64 .f32} {cb : FVec Ideal S8192x64 .f32} {t : IVec S_ 32}
variable (h0 : m ((c : Thread nD τ).loc main_arg0) = x) (h1 : m ((c : Thread nD τ).loc main_arg1) = cb)
  (h2 : m ((c : Thread nD τ).loc main_arg2) = t)
  (hx : ∀ i, ∃ r : ℝ, x i = r) (hc : ∀ i, ∃ r : ℝ, cb i = r)

include h0 h1 h2 hx hc in
/-- The soft codes agree, at any noise that is the reference's. -/
theorem soft_of (ht : (t ix0).toInt ≠ 0) (S : FVec Ideal S16384x8192 .f32) (N : S16384x8192.Idx → ℝ) (hN : ∀ j, S j = (N j : EReal))
    (hV : ∀ j, V m c main_call0_v201 j = ((N j - 64 : ℝ) : EReal)) (n : Fin 16384) (k : Fin 64) :
    G5 m c (ix2 n k) = Ref.mean (Ref.weights (Ref.expo (Ref.logits (Ref.distance x cb) S t))) cb (ix2 n k) := by
  choose X hX using hx
  choose C hC using hc
  have f2 := found_recip m c
  have f3 := found_codes m c
  rw [h1] at f3
  rw [h2] at f2
  obtain ⟨M, hM⟩ := Ref.mean_row (x := x) (c := cb) (n := n) (X := fun k => X (ix2 n k)) (C := fun v k => C (ix2 v k))
    (N := S) (t := t) (g := fun v => N (ix2 n v)) (fun k => hX _) (fun v k => hC _) (fun v => hN _) ht k
  have e := Row.soft_eq (fun k => X (ix2 n k)) (fun v k => C (ix2 v k)) (fun v => N (ix2 n v)) ((t ix0).toInt : ℝ) M
    (Nat.succ_pos 8191) k
  refine Eq.trans ?_ ((congrArg (fun y : ℝ => (y : EReal)) e).trans hM.symm)
  rw [Kern.soft_array]
  unfold Kern.leaves
  dsimp only
  rw [f2, recip_eq t ht]
  refine Kern.soft_row (fun k => ?_) (fun k v => ?_) (fun v k => ?_) (fun v => ?_) k
  · rw [Kern.block0 m c (Kern.point n) (Kern.within n) k n (Kern.row_eq n), V_main_arg0, h0, hX]
  · rw [f3, turned, hC]
  · rw [V_main_arg1, h1, hC]
  · rw [Kern.block3 m c (Kern.point n) (Kern.within n) v n (Kern.row_eq n), hV]

include h0 h1 h2 hx hc in
/-- The soft codes agree. -/
theorem soft (ht : (t ix0).toInt ≠ 0) :
    G5 m c = Ref.mean (Ref.weights (Ref.expo (Ref.logits (Ref.distance x cb) (logs (Ref.sample 0#32 42#32)) t))) cb := by
  obtain ⟨N, hN, hV⟩ := noise_found m c
  funext i
  obtain ⟨n, k, rfl⟩ : ∃ (n : Fin 16384) (k : Fin 64), i = ix2 n k := ⟨_, _, eq_ix2 i⟩
  exact soft_of m c h0 h1 h2 hx hc ht _ N hN hV n k

include h0 h1 hx hc in
/-- The nearest codes agree. -/
theorem hard : G6 m c = Ref.nearest (Ref.distance x cb) := by
  choose X hX using hx
  choose C hC using hc
  have f3 := found_codes m c
  rw [h1] at f3
  funext i
  obtain ⟨n, k, rfl⟩ : ∃ (n : Fin 16384) (k : Fin 1), i = ix2 n k := ⟨_, _, eq_ix2 i⟩
  obtain rfl : k = 0 := Subsingleton.elim _ _
  obtain ⟨v, hv⟩ := First.exists_first (n := 8192) (by norm_num)
    fun w => ((-Row.dist (fun k => X (ix2 n k)) (fun v (k : Fin 64) => C (ix2 v k)) w : ℝ) : EReal)
  rw [Ref.nearest_row (fun k => hX _) (fun v k => hC _) v hv, Kern.hard_array]
  unfold Kern.leaves
  dsimp only
  refine Kern.hard_row (fun k => ?_) (fun k v => ?_) v (Row.first_score _ _ v hv)
  · rw [Kern.block0 m c (Kern.point n) (Kern.within n) k n (Kern.row_eq n), V_main_arg0, h0, hX]
  · rw [f3, turned, hC]

end Cert.Proof.Meet
-- ==== Proof.PreRead.lean ====
/-
  What the precondition gives: real inputs, a real codebook, and a temperature other than zero.
-/
module

public import proofs.«01_k».proof.Pre_sound_input
public import Idealize.ShloMosaic.Lib.ReduceAll
public import Idealize.ShloMosaic.Lib.IdealHost
public import Idealize.ShloMosaic.Lib.Pointwise

@[expose] public section

namespace Cert.Proof.Pre

open Idealize.ShloMosaic Cert.Pre_sound_input

variable [Facts]
open Facts

/-- The word of infinity is infinity. -/
theorem top_eq : Ideal.ofBits .f32 0x7F800000#32 = ⊤ := by
  simp [Ideal.ofBits, Ideal.ieee]

/-- A value whose magnitude is below infinity is a real number. -/
theorem real_of_finite (y : EReal) (h : Ideal.cmp .olt (max y (-y)) (Ideal.ofBits .f32 0x7F800000#32) = 1#1) : ∃ r : ℝ, y = r := by
  rw [top_eq] at h
  induction y using EReal.rec with
  | bot => exact absurd h (by simp [Ideal.cmp])
  | top => exact absurd h (by simp [Ideal.cmp])
  | coe r => exact ⟨r, rfl⟩

/-- Both bits of a conjunction that is one are one. -/
theorem both (a b : BitVec 1) (h : IntOp.andi a b = 1#1) : a = 1#1 ∧ b = 1#1 := by
  revert a b
  decide

/-- Under the precondition the inputs and the codebook are real numbers, and the temperature is not zero. -/
theorem sound (x : FVec Ideal S16384x64 .f32) (c : FVec Ideal S8192x64 .f32) (t : IVec S_ 32)
    (h : fn (F := Ideal) x c t = fun _ => 1#1) :
    (∀ i, ∃ r : ℝ, x i = r) ∧ (∀ i, ∃ r : ℝ, c i = r) ∧ (t ix0).toInt ≠ 0 := by
  have e := congrFun h (ix1 0)
  unfold fn fn_part1 at e
  dsimp only at e
  obtain ⟨e₁, e₂⟩ := both _ _ e
  obtain ⟨-, e₃⟩ := both _ _ e₁
  obtain ⟨e₄, e₅⟩ := both _ _ e₃
  haveI : Subsingleton S_.Idx := ⟨fun a b => funext fun k => k.elim0⟩
  refine ⟨fun i => ?_, fun i => ?_, fun h0 => ?_⟩
  · exact real_of_finite _ (Host.reduce_andi_all _ _ _ _ _ e₄ i)
  · exact real_of_finite _ (Host.reduce_andi_all _ _ _ _ _ e₅ i)
  · have e₆ : IntOp.cmpi .ne (t ix0) 0#32 = 1#1 := (congrArg (fun j => IntOp.cmpi .ne (t j) 0#32) (Subsingleton.elim _ _)).trans e₂
    have : t ix0 = 0#32 := BitVec.eq_of_toInt_eq (h0.trans rfl)
    rw [this] at e₆
    exact absurd e₆ (by decide)

end Cert.Proof.Pre
-- ==== Proof.Algebra.lean ====
/-
  The claims about the two programs' values: the named constant is the one the kernel uses, and both programs end with the
  same two arrays.
-/
module

public import proofs.«01_k».proof.Defs
public import proofs.«01_k».proof.Proof.Meet
public import proofs.«01_k».proof.Proof.PreRead

@[expose] public section

noncomputable section

namespace Cert.Proof

open Idealize.ShloMosaic Idealize.SL.Sem

/-- The one rounded constant of the kernel stands for the reciprocal of `log 2`. -/
theorem preserves : Cert.preserves_Kernel_KernelIdeal :=
  IdealRules.named_const.statement Cert.KernelIdeal.κ "log2e" .f32 0x3FB8AA3B#32 (((Real.log 2)⁻¹ : ℝ) : EReal) rfl

variable [Cert.ReferenceIdeal.Facts] [Cert.Pre_sound_input.Facts]

/-- The reference ends with the kernel's two arrays. -/
theorem reference_ends (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Cert.Pre_KernelIdeal m)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    hold (Ref.final m' c) Cert.ReferenceIdeal.main_v50 = Cert.KernelIdeal.Value.G5 m c
      ∧ hold (Ref.final m' c) Cert.ReferenceIdeal.main_v17 = Cert.KernelIdeal.Value.G6 m c := by
  obtain ⟨hx, hc, ht⟩ := Pre.sound _ _ _ (hp c)
  obtain ⟨e50, e17⟩ := Ref.results (Ref.sat m' c)
  have a0 := (Ref.final_arg m' c Cert.ReferenceIdeal.main_arg0 (by decide)).trans h0
  have a1 := (Ref.final_arg m' c Cert.ReferenceIdeal.main_arg1 (by decide)).trans h1
  have a2 := (Ref.final_arg m' c Cert.ReferenceIdeal.main_arg2 (by decide)).trans h2
  rw [a0, a1, a2] at e50
  rw [a0, a1] at e17
  exact ⟨e50.trans (Meet.soft m c rfl rfl rfl hx hc ht).symm, e17.trans (Meet.hard m c rfl rfl hx hc).symm⟩

/-- Both programs end with the same two arrays. -/
theorem algebraic : Cert.algebraic_KernelIdeal_ReferenceIdeal := by
  intro m g m' g' hp hagree
  refine ⟨_, _, Cert.KernelIdeal.Value.run (F := Ideal) m g, ?_⟩
  refine (θ_run Cert.ReferenceIdeal.defs _ _).mono (fun r h c => ?_) (Ref.run (F := Ideal) m' g')
  obtain ⟨h0, h1, h2⟩ := hagree c
  obtain ⟨e50, e17⟩ := reference_ends m m' c hp h0 h1 h2
  exact ⟨(h c _).trans e50, (h c _).trans e17, (h c _).trans (Ref.final_arg m' c _ (by decide)),
    (h c _).trans (Ref.final_arg m' c _ (by decide)), (h c _).trans (Ref.final_arg m' c _ (by decide))⟩

end Cert.Proof
-- ==== Proof.lean ====
/-
  The certificate: each program runs and keeps its arguments, the named constant is the kernel's, and the two programs end
  with the same two arrays.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_sound_input
public import proofs.«01_k».proof.Proof.Algebra
public import Idealize.ShloMosaic.Adequacy
public import Idealize.ShloMosaic.Init

@[expose] public section

noncomputable section

namespace Cert.Proof

open Idealize.ShloMosaic Idealize.SL.Sem Cert.Kernel

/-- All five claims, the frames first. -/
theorem claim : Cert.Claim := ⟨Cert.Kernel.Gen.facts, Cert.KernelIdeal.Gen.facts, Cert.ReferenceIdeal.Gen.facts, Cert.Pre_sound_input.Gen.facts,
  fun m ρ _ => Cert.Kernel.Gen.frame m ρ,
  fun m ρ _ => Cert.Kernel.Gen.frame m ρ,
  fun m ρ _ => Cert.KernelIdeal.Gen.frame m ρ,
  fun m ρ _ => Cert.Proof.Ref.quiet m ρ,
  fun m ρ _ => Cert.Proof.Ref.quiet m ρ,
  Cert.Proof.preserves,
  Cert.Proof.algebraic⟩

end Cert.Proof

end
